-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_full_races_in_order [hPre_full_races_in_order : Cert.Pre_full_races_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_full_races_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_full_races_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_full_races_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_full_races_in_order [hPre_full_races_in_order : Cert.Pre_full_races_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_full_races_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_full_races_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_full_races_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_full_races_in_order [hKernelIdeal : Cert.KernelIdeal.Facts] [hPre_full_races_in_order : Cert.Pre_full_races_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_full_races_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_full_races_in_order [hReferenceIdeal : Cert.ReferenceIdeal.Facts] [hPre_full_races_in_order : Cert.Pre_full_races_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_full_races_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_full_races_in_order [hKernelIdeal : Cert.KernelIdeal.Facts] [hReferenceIdeal : Cert.ReferenceIdeal.Facts] [hPre_full_races_in_order : Cert.Pre_full_races_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_full_races_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_full_races_in_order : Cert.Pre_full_races_in_order.Facts),
    quiescent_Kernel (hKernel := hKernel)
    ∧ quiescent_KernelIdeal (hKernelIdeal := hKernelIdeal)
    ∧ quiescent_KernelIdeal_pre_full_races_in_order (hKernelIdeal := hKernelIdeal) (hPre_full_races_in_order := hPre_full_races_in_order)
    ∧ quiescent_ReferenceIdeal (hReferenceIdeal := hReferenceIdeal)
    ∧ quiescent_ReferenceIdeal_pre_full_races_in_order (hReferenceIdeal := hReferenceIdeal) (hPre_full_races_in_order := hPre_full_races_in_order)
    ∧ preserves_Kernel_KernelIdeal
    ∧ algebraic_KernelIdeal_ReferenceIdeal_pre_full_races_in_order (hKernelIdeal := hKernelIdeal) (hReferenceIdeal := hReferenceIdeal) (hPre_full_races_in_order := hPre_full_races_in_order)
-- ==== Pre_full_races_in_order.lean ====
abbrev S4096x200 : Shape := ⟨2, ![4096, 200]⟩
abbrev S_ : Shape := ⟨0, ![]⟩
abbrev S4096x199 : Shape := ⟨2, ![4096, 199]⟩

class Facts : Prop where
  bcast_S_S4096x200 : S_.BroadcastsInDim S4096x200 (![] : Fin 0 → Fin S4096x200.rank)
  natLt_1_32 : 1 < 32
  slices_S4096x200_S4096x199_0_0 : S4096x200.Slices ![0, 0] S4096x199
  slices_S4096x200_S4096x199_0_1 : S4096x200.Slices ![0, 1] S4096x199

variable [Facts]

def fn {F : FTy → Type} [FloatOps F] (main_arg0 : FVec F S4096x200 .f32) (main_arg1 : IVec S4096x200 32) (main_arg2 : IVec S4096x200 1) : IVec S4096x200 1 × IVec S4096x200 1 × IVec S4096x199 1 :=
  let main_cst : FVec F S_ .f32 := constant S_ .f32 0xFF800000#32
  let main_v0 : FVec F S4096x200 .f32 := broadcastInDim S4096x200 ![] bcast_S_S4096x200 main_cst
  let main_v1 : IVec S4096x200 1 := cmpf .ogt main_arg0 main_v0
  let main_cst_0 : FVec F S_ .f32 := constant S_ .f32 0x7F800000#32
  let main_v2 : FVec F S4096x200 .f32 := broadcastInDim S4096x200 ![] bcast_S_S4096x200 main_cst_0
  let main_v3 : IVec S4096x200 1 := cmpf .olt main_arg0 main_v2
  let main_v4 : IVec S4096x200 1 := andi main_v1 main_v3
  let main_v5 : IVec S4096x200 32 := (extui 32 · natLt_1_32) main_arg2
  let main_c : IVec S_ 32 := constantI S_ 32 1#32
  let main_v6 : IVec S4096x200 32 := broadcastInDim S4096x200 ![] bcast_S_S4096x200 main_c
  let main_v7 : IVec S4096x200 1 := cmpi .eq main_v5 main_v6
  let main_v8 : IVec S4096x199 32 := (extractStridedSlice S4096x199 ![0, 0] · slices_S4096x200_S4096x199_0_0) main_arg1
  let main_v9 : IVec S4096x199 32 := (extractStridedSlice S4096x199 ![0, 1] · slices_S4096x200_S4096x199_0_1) main_arg1
  let main_v10 : IVec S4096x199 1 := cmpi .sle main_v8 main_v9
  (main_v4, main_v7, main_v10)
-- ==== Kernel.lean ====
abbrev S4096x200 : Shape := ⟨2, ![4096, 200]⟩
abbrev S1 : Shape := ⟨1, ![1]⟩
abbrev S2048x200 : Shape := ⟨2, ![2048, 200]⟩
abbrev S200x200 : Shape := ⟨2, ![200, 200]⟩
abbrev S512x200 : Shape := ⟨2, ![512, 200]⟩
abbrev S1x512x200 : Shape := ⟨3, ![1, 512, 200]⟩
abbrev S1x1x1 : Shape := ⟨3, ![1, 1, 1]⟩
abbrev S1x2048x200 : Shape := ⟨3, ![1, 2048, 200]⟩

abbrev nBuf : Space → Nat
  | .hbm => 4
  | .vmem => 2
  | .smem => 1
  | _ => 0

abbrev bufTy : (tb : Table) → Fin (tcTables nBuf tb) → BufTy
  | .hbm, ⟨0, _⟩ => ⟨S4096x200, .f32⟩
  | .hbm, ⟨1, _⟩ => ⟨S4096x200, .i32⟩
  | .hbm, ⟨2, _⟩ => ⟨S4096x200, .i1⟩
  | .hbm, ⟨3, _⟩ => ⟨S1, .f32⟩
  | .local _ .vmem, ⟨0, _⟩ => ⟨S2048x200, .f32⟩
  | .local _ .vmem, ⟨1, _⟩ => ⟨S2048x200, .f32⟩
  | .local _ .smem, ⟨0, _⟩ => ⟨S1, .f32⟩
  | _, _ => ⟨S4096x200, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2048x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4096x200 : Shape := ⟨2, ![4096, 200]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x100 : Shape := ⟨2, ![4096, 100]⟩
abbrev S4096x50 : Shape := ⟨2, ![4096, 50]⟩
abbrev S4096x25 : Shape := ⟨2, ![4096, 25]⟩
abbrev S4096x12 : Shape := ⟨2, ![4096, 12]⟩
abbrev S4096x6 : Shape := ⟨2, ![4096, 6]⟩
abbrev S4096x3 : Shape := ⟨2, ![4096, 3]⟩
abbrev S4096x1 : Shape := ⟨2, ![4096, 1]⟩
abbrev S4096x2 : Shape := ⟨2, ![4096, 2]⟩
abbrev S4096x5 : Shape := ⟨2, ![4096, 5]⟩
abbrev S4096x13 : Shape := ⟨2, ![4096, 13]⟩
abbrev S4096x24 : Shape := ⟨2, ![4096, 24]⟩
abbrev S4096x49 : Shape := ⟨2, ![4096, 49]⟩
abbrev S4096x99 : Shape := ⟨2, ![4096, 99]⟩
abbrev S4096 : Shape := ⟨1, ![4096]⟩
abbrev S200 : Shape := ⟨1, ![200]⟩
abbrev S1x200 : Shape := ⟨2, ![1, 200]⟩

abbrev nBuf : Space → Nat
  | .hbm => 310
  | .vmem => 0
  | .smem => 0
  | _ => 0

abbrev hbmTy0_0 (i : Nat) : BufTy := match i % 128 with
  | 0 => ⟨S4096x200, .f32⟩
  | 1 => ⟨S4096x200, .i32⟩
  | 2 => ⟨S4096x200, .i1⟩
  | 3 => ⟨S_, .f32⟩
  | 4 => ⟨S_, .f32⟩
  | 5 => ⟨S4096x200, .f32⟩
  | 6 => ⟨S4096x200, .f32⟩
  | 7 => ⟨S_, .i32⟩
  | 8 => ⟨S_, .i32⟩
  | 9 => ⟨S4096x200, .i32⟩
  | 10 => ⟨S4096x200, .i32⟩
  | 11 => ⟨S4096x200, .i32⟩
  | 12 => ⟨S4096x200, .i32⟩
  | 13 => ⟨S4096x200, .i32⟩
  | 14 => ⟨S_, .i32⟩
  | 15 => ⟨S4096x200, .i32⟩
  | 16 => ⟨S4096x200, .i1⟩
  | 17 => ⟨S_, .i32⟩
  | 18 => ⟨S4096x200, .i32⟩
  | 19 => ⟨S4096x200, .i32⟩
  | 20 => ⟨S4096x200, .i32⟩
  | 21 => ⟨S4096x200x1, .i32⟩
  | 22 => ⟨S1, .i32⟩
  | 23 => ⟨S_, .i32⟩
  | 24 => ⟨S4096x200x1, .i32⟩
  | 25 => ⟨S4096x200x1, .i1⟩
  | 26 => ⟨S1x1x1, .i32⟩
  | 27 => ⟨S4096x200x1, .i32⟩
  | 28 => ⟨S4096x200x1, .i1⟩
  | 29 => ⟨S4096x200x1, .i1⟩
  | 30 => ⟨S_, .i1⟩
  | 31 => ⟨S4096x200, .i1⟩
  | 32 => ⟨S4096x200, .f32⟩
  | 33 => ⟨S_, .f32⟩
  | 34 => ⟨S4096x200, .f32⟩
  | 35 => ⟨S4096x200, .f32⟩
  | 36 => ⟨S_, .i32⟩
  | 37 => ⟨S4096x200, .i32⟩
  | 38 => ⟨S4096x200, .i1⟩
  | 39 => ⟨S_, .i32⟩
  | 40 => ⟨S4096x200, .i32⟩
  | 41 => ⟨S4096x200, .i32⟩
  | 42 => ⟨S4096x200, .i32⟩
  | 43 => ⟨S4096x200x1, .i32⟩
  | 44 => ⟨S1, .i32⟩
  | 45 => ⟨S_, .i32⟩
  | 46 => ⟨S4096x200x1, .i32⟩
  | 47 => ⟨S4096x200x1, .i1⟩
  | 48 => ⟨S1x1x1, .i32⟩
  | 49 => ⟨S4096x200x1, .i32⟩
  | 50 => ⟨S4096x200x1, .i1⟩
  | 51 => ⟨S4096x200x1, .i1⟩
  | 52 => ⟨S_, .i1⟩
  | 53 => ⟨S4096x200, .i1⟩
  | 54 => ⟨S4096x200, .i1⟩
  | 55 => ⟨S_, .i1⟩
  | 56 => ⟨S4096x200, .i1⟩
  | 57 => ⟨S4096x200, .i1⟩
  | 58 => ⟨S4096x200, .f32⟩
  | 59 => ⟨S4096x200, .f32⟩
  | 60 => ⟨S4096x200, .f32⟩
  | 61 => ⟨S4096x100, .f32⟩
  | 62 => ⟨S4096x100, .f32⟩
  | 63 => ⟨S4096x100, .f32⟩
  | 64 => ⟨S4096x100, .f32⟩
  | 65 => ⟨S4096x100, .i1⟩
  | 66 => ⟨S4096x100, .f32⟩
  | 67 => ⟨S4096x100, .f32⟩
  | 68 => ⟨S4096x100, .f32⟩
  | 69 => ⟨S4096x100, .f32⟩
  | 70 => ⟨S4096x100, .f32⟩
  | 71 => ⟨S4096x100, .f32⟩
  | 72 => ⟨S4096x100, .f32⟩
  | 73 => ⟨S4096x50, .f32⟩
  | 74 => ⟨S4096x50, .f32⟩
  | 75 => ⟨S4096x50, .f32⟩
  | 76 => ⟨S4096x50, .f32⟩
  | 77 => ⟨S4096x50, .i1⟩
  | 78 => ⟨S4096x50, .f32⟩
  | 79 => ⟨S4096x50, .f32⟩
  | 80 => ⟨S4096x50, .f32⟩
  | 81 => ⟨S4096x50, .f32⟩
  | 82 => ⟨S4096x50, .f32⟩
  | 83 => ⟨S4096x50, .f32⟩
  | 84 => ⟨S4096x50, .f32⟩
  | 85 => ⟨S4096x25, .f32⟩
  | 86 => ⟨S4096x25, .f32⟩
  | 87 => ⟨S4096x25, .f32⟩
  | 88 => ⟨S4096x25, .f32⟩
  | 89 => ⟨S4096x25, .i1⟩
  | 90 => ⟨S4096x25, .f32⟩
  | 91 => ⟨S4096x25, .f32⟩
  | 92 => ⟨S4096x25, .f32⟩
  | 93 => ⟨S4096x25, .f32⟩
  | 94 => ⟨S4096x25, .f32⟩
  | 95 => ⟨S4096x25, .f32⟩
  | 96 => ⟨S4096x25, .f32⟩
  | 97 => ⟨S4096x12, .f32⟩
  | 98 => ⟨S4096x12, .f32⟩
  | 99 => ⟨S4096x12, .f32⟩
  | 100 => ⟨S4096x12, .f32⟩
  | 101 => ⟨S4096x12, .i1⟩
  | 102 => ⟨S4096x12, .f32⟩
  | 103 => ⟨S4096x12, .f32⟩
  | 104 => ⟨S4096x12, .f32⟩
  | 105 => ⟨S4096x12, .f32⟩
  | 106 => ⟨S4096x12, .f32⟩
  | 107 => ⟨S4096x12, .f32⟩
  | 108 => ⟨S4096x12, .f32⟩
  | 109 => ⟨S4096x6, .f32⟩
  | 110 => ⟨S4096x6, .f32⟩
  | 111 => ⟨S4096x6, .f32⟩
  | 112 => ⟨S4096x6, .f32⟩
  | 113 => ⟨S4096x6, .i1⟩
  | 114 => ⟨S4096x6, .f32⟩
  | 115 => ⟨S4096x6, .f32⟩
  | 116 => ⟨S4096x6, .f32⟩
  | 117 => ⟨S4096x6, .f32⟩
  | 118 => ⟨S4096x6, .f32⟩
  | 119 => ⟨S4096x6, .f32⟩
  | 120 => ⟨S4096x6, .f32⟩
  | 121 => ⟨S4096x3, .f32⟩
  | 122 => ⟨S4096x3, .f32⟩
  | 123 => ⟨S4096x3, .f32⟩
  | 124 => ⟨S4096x3, .f32⟩
  | 125 => ⟨S4096x3, .i1⟩
  | 126 => ⟨S4096x3, .f32⟩
  | 127 => ⟨S4096x3, .f32⟩
  | _ => ⟨S4096x200, .f32⟩

abbrev hbmTy0_1 (i : Nat) : BufTy := match i % 128 with
  | 0 => ⟨S4096x3, .f32⟩
  | 1 => ⟨S4096x3, .f32⟩
  | 2 => ⟨S4096x3, .f32⟩
  | 3 => ⟨S4096x3, .f32⟩
  | 4 => ⟨S4096x3, .f32⟩
  | 5 => ⟨S4096x1, .f32⟩
  | 6 => ⟨S4096x1, .f32⟩
  | 7 => ⟨S4096x1, .f32⟩
  | 8 => ⟨S4096x1, .f32⟩
  | 9 => ⟨S4096x1, .i1⟩
  | 10 => ⟨S4096x1, .f32⟩
  | 11 => ⟨S4096x1, .f32⟩
  | 12 => ⟨S4096x1, .f32⟩
  | 13 => ⟨S4096x1, .f32⟩
  | 14 => ⟨S4096x1, .f32⟩
  | 15 => ⟨S4096x1, .f32⟩
  | 16 => ⟨S4096x1, .f32⟩
  | 17 => ⟨S4096x1, .f32⟩
  | 18 => ⟨S4096x1, .f32⟩
  | 19 => ⟨S4096x1, .f32⟩
  | 20 => ⟨S4096x1, .i1⟩
  | 21 => ⟨S4096x1, .f32⟩
  | 22 => ⟨S4096x1, .f32⟩
  | 23 => ⟨S4096x1, .f32⟩
  | 24 => ⟨S4096x1, .f32⟩
  | 25 => ⟨S4096x1, .f32⟩
  | 26 => ⟨S4096x1, .f32⟩
  | 27 => ⟨S4096x1, .f32⟩
  | 28 => ⟨S4096x1, .f32⟩
  | 29 => ⟨S4096x2, .f32⟩
  | 30 => ⟨S_, .f32⟩
  | 31 => ⟨S4096x3, .f32⟩
  | 32 => ⟨S_, .f32⟩
  | 33 => ⟨S4096x3, .f32⟩
  | 34 => ⟨S4096x3, .f32⟩
  | 35 => ⟨S4096x2, .f32⟩
  | 36 => ⟨S4096x2, .f32⟩
  | 37 => ⟨S4096x2, .f32⟩
  | 38 => ⟨S4096x2, .f32⟩
  | 39 => ⟨S4096x2, .i1⟩
  | 40 => ⟨S4096x2, .f32⟩
  | 41 => ⟨S4096x2, .f32⟩
  | 42 => ⟨S4096x2, .f32⟩
  | 43 => ⟨S4096x2, .f32⟩
  | 44 => ⟨S4096x2, .f32⟩
  | 45 => ⟨S4096x2, .f32⟩
  | 46 => ⟨S4096x2, .f32⟩
  | 47 => ⟨S4096x1, .f32⟩
  | 48 => ⟨S4096x3, .f32⟩
  | 49 => ⟨S_, .f32⟩
  | 50 => ⟨S4096x6, .f32⟩
  | 51 => ⟨S_, .f32⟩
  | 52 => ⟨S4096x6, .f32⟩
  | 53 => ⟨S4096x6, .f32⟩
  | 54 => ⟨S4096x5, .f32⟩
  | 55 => ⟨S4096x5, .f32⟩
  | 56 => ⟨S4096x5, .f32⟩
  | 57 => ⟨S4096x5, .f32⟩
  | 58 => ⟨S4096x5, .i1⟩
  | 59 => ⟨S4096x5, .f32⟩
  | 60 => ⟨S4096x5, .f32⟩
  | 61 => ⟨S4096x5, .f32⟩
  | 62 => ⟨S4096x5, .f32⟩
  | 63 => ⟨S4096x5, .f32⟩
  | 64 => ⟨S4096x5, .f32⟩
  | 65 => ⟨S4096x5, .f32⟩
  | 66 => ⟨S4096x1, .f32⟩
  | 67 => ⟨S4096x6, .f32⟩
  | 68 => ⟨S_, .f32⟩
  | 69 => ⟨S4096x12, .f32⟩
  | 70 => ⟨S_, .f32⟩
  | 71 => ⟨S4096x12, .f32⟩
  | 72 => ⟨S4096x12, .f32⟩
  | 73 => ⟨S4096x12, .f32⟩
  | 74 => ⟨S4096x12, .f32⟩
  | 75 => ⟨S4096x12, .f32⟩
  | 76 => ⟨S4096x12, .i1⟩
  | 77 => ⟨S4096x12, .f32⟩
  | 78 => ⟨S4096x12, .f32⟩
  | 79 => ⟨S4096x12, .f32⟩
  | 80 => ⟨S4096x12, .f32⟩
  | 81 => ⟨S4096x12, .f32⟩
  | 82 => ⟨S4096x12, .f32⟩
  | 83 => ⟨S4096x12, .f32⟩
  | 84 => ⟨S4096x1, .f32⟩
  | 85 => ⟨S4096x13, .f32⟩
  | 86 => ⟨S_, .f32⟩
  | 87 => ⟨S4096x25, .f32⟩
  | 88 => ⟨S_, .f32⟩
  | 89 => ⟨S4096x25, .f32⟩
  | 90 => ⟨S4096x25, .f32⟩
  | 91 => ⟨S4096x24, .f32⟩
  | 92 => ⟨S4096x24, .f32⟩
  | 93 => ⟨S4096x24, .f32⟩
  | 94 => ⟨S4096x24, .f32⟩
  | 95 => ⟨S4096x24, .i1⟩
  | 96 => ⟨S4096x24, .f32⟩
  | 97 => ⟨S4096x24, .f32⟩
  | 98 => ⟨S4096x24, .f32⟩
  | 99 => ⟨S4096x24, .f32⟩
  | 100 => ⟨S4096x24, .f32⟩
  | 101 => ⟨S4096x24, .f32⟩
  | 102 => ⟨S4096x24, .f32⟩
  | 103 => ⟨S4096x1, .f32⟩
  | 104 => ⟨S4096x25, .f32⟩
  | 105 => ⟨S_, .f32⟩
  | 106 => ⟨S4096x50, .f32⟩
  | 107 => ⟨S_, .f32⟩
  | 108 => ⟨S4096x50, .f32⟩
  | 109 => ⟨S4096x50, .f32⟩
  | 110 => ⟨S4096x49, .f32⟩
  | 111 => ⟨S4096x49, .f32⟩
  | 112 => ⟨S4096x49, .f32⟩
  | 113 => ⟨S4096x49, .f32⟩
  | 114 => ⟨S4096x49, .i1⟩
  | 115 => ⟨S4096x49, .f32⟩
  | 116 => ⟨S4096x49, .f32⟩
  | 117 => ⟨S4096x49, .f32⟩
  | 118 => ⟨S4096x49, .f32⟩
  | 119 => ⟨S4096x49, .f32⟩
  | 120 => ⟨S4096x49, .f32⟩
  | 121 => ⟨S4096x49, .f32⟩
  | 122 => ⟨S4096x1, .f32⟩
  | 123 => ⟨S4096x50, .f32⟩
  | 124 => ⟨S_, .f32⟩
  | 125 => ⟨S4096x100, .f32⟩
  | 126 => ⟨S_, .f32⟩
  | 127 => ⟨S4096x100, .f32⟩
  | _ => ⟨S4096x200, .f32⟩

abbrev hbmTy0_2 (i : Nat) : BufTy := match i % 128 with
  | 0 => ⟨S4096x100, .f32⟩
  | 1 => ⟨S4096x99, .f32⟩
  | 2 => ⟨S4096x99, .f32⟩
  | 3 => ⟨S4096x99, .f32⟩
  | 4 => ⟨S4096x99, .f32⟩
  | 5 => ⟨S4096x99, .i1⟩
  | 6 => ⟨S4096x99, .f32⟩
  | 7 => ⟨S4096x99, .f32⟩
  | 8 => ⟨S4096x99, .f32⟩
  | 9 => ⟨S4096x99, .f32⟩
  | 10 => ⟨S4096x99, .f32⟩
  | 11 => ⟨S4096x99, .f32⟩
  | 12 => ⟨S4096x99, .f32⟩
  | 13 => ⟨S4096x1, .f32⟩
  | 14 => ⟨S4096x100, .f32⟩
  | 15 => ⟨S_, .f32⟩
  | 16 => ⟨S4096x200, .f32⟩
  | 17 => ⟨S_, .f32⟩
  | 18 => ⟨S4096x200, .f32⟩
  | 19 => ⟨S4096x200, .f32⟩
  | 20 => ⟨S4096x200, .f32⟩
  | 21 => ⟨S4096x200, .i32⟩
  | 22 => ⟨S_, .i32⟩
  | 23 => ⟨S4096, .i32⟩
  | 24 => ⟨S200, .i32⟩
  | 25 => ⟨S1x200, .i32⟩
  | 26 => ⟨S4096x1, .i32⟩
  | 27 => ⟨S_, .i32⟩
  | 28 => ⟨S4096x1, .i32⟩
  | 29 => ⟨S4096x1, .i32⟩
  | 30 => ⟨S4096x200, .i32⟩
  | 31 => ⟨S4096x200, .i32⟩
  | 32 => ⟨S4096x200, .i1⟩
  | 33 => ⟨S4096x200, .f32⟩
  | 34 => ⟨S_, .f32⟩
  | 35 => ⟨S_, .f32⟩
  | 36 => ⟨S4096x200, .f32⟩
  | 37 => ⟨S4096x200, .f32⟩
  | 38 => ⟨S_, .f32⟩
  | 39 => ⟨S4096, .f32⟩
  | 40 => ⟨S_, .i32⟩
  | 41 => ⟨S4096, .i32⟩
  | 42 => ⟨S4096, .i1⟩
  | 43 => ⟨S4096, .f32⟩
  | 44 => ⟨S_, .f32⟩
  | 45 => ⟨S_, .f32⟩
  | 46 => ⟨S_, .f32⟩
  | 47 => ⟨S_, .f32⟩
  | 48 => ⟨S4096, .f32⟩
  | 49 => ⟨S4096, .f32⟩
  | 50 => ⟨S_, .f32⟩
  | 51 => ⟨S_, .f32⟩
  | 52 => ⟨S_, .f32⟩
  | 53 => ⟨S1, .f32⟩
  | _ => ⟨S4096x200, .f32⟩

abbrev hbmTy (i : Nat) : BufTy := match i / 128 with
  | 0 => hbmTy0_0 i
  | 1 => hbmTy0_1 i
  | 2 => hbmTy0_2 i
  | _ => ⟨S4096x200, .f32⟩

abbrev bufTy : (tb : Table) → Fin (tcTables nBuf tb) → BufTy
  | .hbm, ⟨i, _⟩ => hbmTy i
  | _, _ => ⟨S4096x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_call1_v0 : Ref sig .tc := ⟨.hbm, 11, rfl⟩
abbrev main_call1_v1_0 : Ref sig .tc := ⟨.hbm, 12, rfl⟩
abbrev main_v3 : Ref sig .tc := ⟨.hbm, 13, rfl⟩
abbrev main_call2_c : Ref sig .tc := ⟨.hbm, 14, rfl⟩
abbrev main_call2_v0 : Ref sig .tc := ⟨.hbm, 15, rfl⟩
abbrev main_call2_v1 : Ref sig .tc := ⟨.hbm, 16, rfl⟩
abbrev main_call2_c_0 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_call2_v5 : Ref sig .tc := ⟨.hbm, 21, rfl⟩
abbrev main_call2_c_1 : Ref sig .tc := ⟨.hbm, 22, rfl⟩
abbrev main_call2_c_2 : Ref sig .tc := ⟨.hbm, 23, rfl⟩
abbrev main_call2_v6 : Ref sig .tc := ⟨.hbm, 24, rfl⟩
abbrev main_call2_v7 : Ref sig .tc := ⟨.hbm, 25, rfl⟩
abbrev main_call2_v8 : Ref sig .tc := ⟨.hbm, 26, rfl⟩
abbrev main_call2_v9 : Ref sig .tc := ⟨.hbm, 27, rfl⟩
abbrev main_call2_v10 : Ref sig .tc := ⟨.hbm, 28, rfl⟩
abbrev main_call2_v11 : Ref sig .tc := ⟨.hbm, 29, rfl⟩
abbrev main_call2_c_3 : Ref sig .tc := ⟨.hbm, 30, rfl⟩
abbrev main_call2_v12 : Ref sig .tc := ⟨.hbm, 31, rfl⟩
abbrev main_call2_v13 : Ref sig .tc := ⟨.hbm, 32, rfl⟩
abbrev main_call2_cst : Ref sig .tc := ⟨.hbm, 33, rfl⟩
abbrev main_call2_v14 : Ref sig .tc := ⟨.hbm, 34, rfl⟩
abbrev main_v4 : Ref sig .tc := ⟨.hbm, 35, rfl⟩
abbrev main_call3_c : Ref sig .tc := ⟨.hbm, 36, rfl⟩
abbrev main_call3_v0 : Ref sig .tc := ⟨.hbm, 37, rfl⟩
abbrev main_call3_v1 : Ref sig .tc := ⟨.hbm, 38, rfl⟩
abbrev main_call3_c_0 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_call3_v5 : Ref sig .tc := ⟨.hbm, 43, rfl⟩
abbrev main_call3_c_1 : Ref sig .tc := ⟨.hbm, 44, rfl⟩
abbrev main_call3_c_2 : Ref sig .tc := ⟨.hbm, 45, rfl⟩
abbrev main_call3_v6 : Ref sig .tc := ⟨.hbm, 46, rfl⟩
abbrev main_call3_v7 : Ref sig .tc := ⟨.hbm, 47, rfl⟩
abbrev main_call3_v8 : Ref sig .tc := ⟨.hbm, 48, rfl⟩
abbrev main_call3_v9 : Ref sig .tc := ⟨.hbm, 49, rfl⟩
abbrev main_call3_v10 : Ref sig .tc := ⟨.hbm, 50, rfl⟩
abbrev main_call3_v11 : Ref sig .tc := ⟨.hbm, 51, rfl⟩
abbrev main_call3_c_3 : Ref sig .tc := ⟨.hbm, 52, rfl⟩
abbrev main_call3_v12 : Ref sig .tc := ⟨.hbm, 53, rfl⟩
abbrev main_call3_v13 : Ref sig .tc := ⟨.hbm, 54, rfl⟩
abbrev main_call3_c_4 : Ref sig .tc := ⟨.hbm, 55, rfl⟩
abbrev main_call3_v14 : Ref sig .tc := ⟨.hbm, 56, rfl⟩
abbrev main_v5 : Ref sig .tc := ⟨.hbm, 57, rfl⟩
abbrev main_call4_v0 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_1 : Ref sig .tc := ⟨.hbm, 158, rfl⟩
abbrev main_v105 : Ref sig .tc := ⟨.hbm, 159, rfl⟩
abbrev main_cst_2 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_3 : Ref sig .tc := ⟨.hbm, 177, rfl⟩
abbrev main_v122 : Ref sig .tc := ⟨.hbm, 178, rfl⟩
abbrev main_cst_4 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_5 : Ref sig .tc := ⟨.hbm, 196, rfl⟩
abbrev main_v139 : Ref sig .tc := ⟨.hbm, 197, rfl⟩
abbrev main_cst_6 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_7 : Ref sig .tc := ⟨.hbm, 214, rfl⟩
abbrev main_v155 : Ref sig .tc := ⟨.hbm, 215, rfl⟩
abbrev main_cst_8 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_cst_9 : Ref sig .tc := ⟨.hbm, 233, rfl⟩
abbrev main_v172 : Ref sig .tc := ⟨.hbm, 234, rfl⟩
abbrev main_cst_10 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_cst_11 : Ref sig .tc := ⟨.hbm, 252, rfl⟩
abbrev main_v189 : Ref sig .tc := ⟨.hbm, 253, rfl⟩
abbrev main_cst_12 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_cst_13 : Ref sig .tc := ⟨.hbm, 271, rfl⟩
abbrev main_v206 : Ref sig .tc := ⟨.hbm, 272, rfl⟩
abbrev main_cst_14 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_c_15 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_c_16 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_cst_17 : Ref sig .tc := ⟨.hbm, 290, rfl⟩
abbrev main_call5_v0 : Ref sig .tc := ⟨.hbm, 291, rfl⟩
abbrev main_call5_v1 : Ref sig .tc := ⟨.hbm, 292, rfl⟩
abbrev main_v221 : Ref sig .tc := ⟨.hbm, 293, rfl⟩
abbrev main_cst_18 : Ref sig .tc := ⟨.hbm, 294, rfl⟩
abbrev main_v222 : Ref sig .tc := ⟨.hbm, 295, rfl⟩
abbrev main_c_19 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_cst_20 : Ref sig .tc := ⟨.hbm, 300, rfl⟩
abbrev main_v226 : Ref sig .tc := ⟨.hbm, 301, rfl⟩
abbrev main_cst_21 : Ref sig .tc := ⟨.hbm, 302, rfl⟩
abbrev main_call6_v0 : Ref sig .tc := ⟨.hbm, 303, rfl⟩
abbrev main_call6_v1 : Ref sig .tc := ⟨.hbm, 304, rfl⟩
abbrev main_v227 : Ref sig .tc := ⟨.hbm, 305, rfl⟩
abbrev main_cst_22 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩

abbrev nD : Nat := 1
abbrev τ : Topo := Topo.v7x

variable {F : FTy → Type} [FloatOps F]
-- ==== Proof.Loss.lean ====
/-
  THE NUMBER: the Plackett-Luce loss of 4096 races of 200 horses listed in finishing order, as a real. A horse's term is
  the logarithm of the sum of the exponentials from it to the last, less its score; the loss is the terms' sum over 4096.
-/
module

public import Idealize.ShloMosaic.PureOps.Ideal.Laws
public import Mathlib.Analysis.SpecialFunctions.Log.Basic
public import Mathlib.Data.EReal.Basic

@[expose] public section

noncomputable section

namespace Cert.Loss

open scoped BigOperators

/-- The sum of the exponentials of race `r`'s scores from place `p` to the last. -/
def tail (s : ℕ → ℕ → ℝ) (r p : ℕ) : ℝ := ∑ q ∈ Finset.range 200, if p ≤ q then Real.exp (s r q) else 0

/-- One horse's term. -/
def term (s : ℕ → ℕ → ℝ) (r p : ℕ) : ℝ := Real.log (tail s r p) - s r p

/-- The loss. -/
def loss (s : ℕ → ℕ → ℝ) : ℝ := (∑ r ∈ Finset.range 4096, ∑ p ∈ Finset.range 200, term s r p) / 4096

theorem tail_pos (s : ℕ → ℕ → ℝ) (r : ℕ) {p : ℕ} (hp : p < 200) : 0 < tail s r p := by
  refine Finset.sum_pos' (fun q _ => ?_) ⟨p, Finset.mem_range.2 hp, ?_⟩
  · split
    · exact (Real.exp_pos _).le
    · exact le_rfl
  · rw [if_pos le_rfl]
    exact Real.exp_pos _

/-- The last horse's term is zero. -/
theorem term_last (s : ℕ → ℕ → ℝ) (r : ℕ) : term s r 199 = 0 := by
  have : tail s r 199 = Real.exp (s r 199) := by
    unfold tail
    rw [Finset.sum_eq_single 199]
    · rw [if_pos le_rfl]
    · intro q hq hne
      have := Finset.mem_range.1 hq
      rw [if_neg (by omega)]
    · intro h
      exact absurd (Finset.mem_range.2 (by norm_num)) h
  unfold term
  rw [this, Real.log_exp, sub_self]

/-- Counted from the last horse, the tail is a prefix. -/
theorem tail_eq_prefix (s : ℕ → ℕ → ℝ) (r : ℕ) {p : ℕ} (hp : p < 200) :
    ∑ k ∈ Finset.range (199 - p + 1), Real.exp (s r (199 - k)) = tail s r p := by
  unfold tail
  rw [← Finset.sum_range_reflect (fun q => if p ≤ q then Real.exp (s r q) else 0) 200, ← Finset.sum_filter]
  refine Finset.sum_congr (Finset.ext fun k => ?_) fun k _ => rfl
  simp only [Finset.mem_range, Finset.mem_filter]
  omega

/-- A finite sum of reals, as extended reals. -/
theorem coe_sum {ι : Type} (S : Finset ι) (f : ι → ℝ) : ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- A sum over `Fin n` of reals, as extended reals, is a sum over a range. -/
theorem sum_fin_coe {n : ℕ} (F : Fin n → EReal) (f : ℕ → ℝ) (h : ∀ k : Fin n, F k = ((f k : ℝ) : EReal)) :
    ∑ k, F k = ((∑ k ∈ Finset.range n, f k : ℝ) : EReal) := by
  rw [Finset.sum_congr rfl fun k _ => h k, ← coe_sum, Fin.sum_univ_eq_sum_range f n]

end Cert.Loss

end
-- ==== Proof.Sums.lean ====
/-
  The reference's and the kernel's float sums, on arrays that hold reals: each is the real sum.
-/
module

public import proofs.«01_k».proof.Proof.Loss
public import Idealize.ShloMosaic.Lib.IdealHost
public import Idealize.ShloMosaic.Lib.Pipeline.Value
public import Idealize.ShloMosaic.Lib.Pointwise.Reduce

@[expose] public section

noncomputable section

namespace Cert.Sums

open Idealize.ShloMosaic hiding ix1 ix2 ix3 eq_ix1 eq_ix2 eq_ix3
open Idealize.ShloMosaic.ValueIdx

/-- The constant 4096. -/
theorem ofBits_4096 : Ideal.ofBits .f32 0x45800000#32 = ((4096 : ℝ) : EReal) := by
  simp [Ideal.ofBits, Ideal.ieee, -EReal.coe_mul]; norm_num

/-- The host's sum along the rows of an array of reals. -/
theorem row_sum {R n : ℕ} (v : FVec Ideal ⟨2, ![R, n]⟩ .f32) (f : ℕ → ℕ → ℝ) (hv : ∀ (r : Fin R) (k : Fin n), v (ix2 r k) = ((f r k : ℝ) : EReal))
    (h : (⟨2, ![R, n]⟩ : Shape).ReducesTo [1] ⟨1, ![R]⟩) (hu : 0 < (⟨0, ![]⟩ : Shape).numel) (r : Fin R) :
    Host.reduceAdd v (constant ⟨0, ![]⟩ .f32 0x00000000#32) h hu (ix1 r) = ((∑ k ∈ Finset.range n, f r k : ℝ) : EReal) := by
  refine (Ideal.hostReduceAdd_r2_a1 h v (Ideal.ofBits .f32 0x00000000#32) (ix1 r)).trans ?_
  rw [Ideal.ofBits_zero_f32, zero_add]
  exact Cert.Loss.sum_fin_coe _ (f r) fun k => (congrArg v (eq_ix2 _)).trans (hv r k)

/-- The host's sum of a vector of reals. -/
theorem total_sum {n : ℕ} (v : FVec Ideal ⟨1, ![n]⟩ .f32) (f : ℕ → ℝ) (hv : ∀ k : Fin n, v (ix1 k) = ((f k : ℝ) : EReal))
    (h : (⟨1, ![n]⟩ : Shape).ReducesTo [0] ⟨0, ![]⟩) (hu : 0 < (⟨0, ![]⟩ : Shape).numel) (j : (⟨0, ![]⟩ : Shape).Idx) :
    Host.reduceAdd v (constant ⟨0, ![]⟩ .f32 0x00000000#32) h hu j = ((∑ k ∈ Finset.range n, f k : ℝ) : EReal) := by
  refine (Ideal.hostReduceAdd_r1_a0 h v (Ideal.ofBits .f32 0x00000000#32) j).trans ?_
  rw [Ideal.ofBits_zero_f32, zero_add]
  exact Cert.Loss.sum_fin_coe _ f fun k => (congrArg v (eq_ix1 _)).trans (hv k)

/-- The kernel's sum of a whole block of reals, read out as one number. -/
theorem block_sum {R n : ℕ} (v : FVec Ideal ⟨2, ![R, n]⟩ .f32) (f : ℕ → ℕ → ℝ) (hv : ∀ (r : Fin R) (k : Fin n), v (ix2 r k) = ((f r k : ℝ) : EReal))
    (hc : (⟨2, ![R, n]⟩ : Shape).ShapeCasts ⟨3, ![1, R, n]⟩) (h : (⟨3, ![1, R, n]⟩ : Shape).Reduces [1, 2] ⟨1, ![1]⟩)
    (j : (⟨1, ![1]⟩ : Shape).Idx) :
    Ideal.reduceAdd h (shapeCast ⟨3, ![1, R, n]⟩ v hc) j
      = ((∑ r ∈ Finset.range R, ∑ k ∈ Finset.range n, f r k : ℝ) : EReal) := by
  refine (Ideal.reduceAdd_r3_a12 h _ j).trans ?_
  refine Cert.Loss.sum_fin_coe _ (fun r => ∑ k ∈ Finset.range n, f r k) fun r => ?_
  refine Cert.Loss.sum_fin_coe _ (f r) fun k => ?_
  refine (shapeCast_apply v hc _ (ix2 r k) ?_).trans (hv r k)
  rw [Shape.rowMajor_val_two, Shape.rowMajor_val_three]
  have hj : (j 0).val < 1 := (j 0).isLt
  show r.val * n + k.val = ((j 0).val * R + r.val) * n + k.val
  rw [Nat.lt_one_iff.1 hj]
  simp

end Cert.Sums

end
-- ==== Proof.Block.lean ====
/-
  WHAT ONE BLOCK ADDS: on a block of 2048 races whose scores are reals, the kernel's body adds to the running number the
  sum of the block's terms over 4096. The product with the triangle of ones is the tails; the logarithm of a product of
  four tails is the sum of their logarithms, so the 512 rows the kernel sums are the 2048.
-/
module

public import proofs.«01_k».proof.Proof.Sums
public import proofs.«01_k».proof.Proof.Gen.KernelIdeal.Skeleton
public import Idealize.ShloMosaic.Lib.MatmulPlain
public import Idealize.ShloMosaic.Lib.WordCmp

@[expose] public section

noncomputable section

namespace Cert.Block

open Cert.KernelIdeal Cert.KernelIdeal.Gen
open Idealize.ShloMosaic hiding ix0 ix1 ix2 ix3 eq_ix1 eq_ix2 eq_ix3
open Idealize.ShloMosaic.ValueIdx
open Cert.Loss (tail term)
open scoped BigOperators

/-- The triangle of ones: a row's place is at least the column's. -/
def triangle : FVec Ideal S200x200 .bf16 :=
  truncf .bf16 (sitofp .f32 (extui 32 (cmpi .sge (iota .tc S200x200 32 [0] iota_S200x200_d0_w32) (iota .tc S200x200 32 [1] iota_S200x200_d1_w32)) natLt_1_32) : FVec Ideal S200x200 .f32) bitsLt_bf16_f32

theorem triangle_apply (q p : Fin 200) : triangle (ix2 q p) = if p.val ≤ q.val then 1 else 0 := by
  unfold triangle
  show (((BitVec.setWidth 32 (IntOp.cmpi .sge (iota .tc S200x200 32 [0] iota_S200x200_d0_w32 (ix2 q p)) (iota .tc S200x200 32 [1] iota_S200x200_d1_w32 (ix2 q p)))).toInt : ℝ) : EReal) = _
  have hq := q.isLt
  have hp := p.isLt
  rw [iota_single_apply, iota_single_apply]
  show (((BitVec.setWidth 32 (IntOp.cmpi .sge (BitVec.ofNat 32 q.val) (BitVec.ofNat 32 p.val))).toInt : ℝ) : EReal) = _
  rw [WordCmp.cmpi_sge_ofNat (w := 32) (by omega) (by omega)]
  by_cases h : p.val ≤ q.val
  · rw [if_pos h, decide_eq_true h]
    have : (BitVec.setWidth 32 (BitVec.ofBool true)).toInt = 1 := by decide
    rw [this]
    simp
  · rw [if_neg h, decide_eq_false h]
    have : (BitVec.setWidth 32 (BitVec.ofBool false)).toInt = 0 := by decide
    rw [this]
    simp

/-- The exponentials' product with the triangle. -/
def tails (x : Vec Ideal S2048x200 .f32) : FVec Ideal S2048x200 .f32 :=
  matmul dot_S2048x200_S200x200_S2048x200_1_0_0_1_n_n none (truncf .bf16 (exp (F := Ideal) (φ := .f32) x) bitsLt_bf16_f32) triangle (constant S2048x200 .f32 0x00000000#32)

variable {x : Vec Ideal S2048x200 .f32} {b : ℕ → ℕ → ℝ} (hx : ∀ (r : Fin 2048) (k : Fin 200), x (ix2 r k) = ((b r k : ℝ) : EReal))
include hx

/-- It is the tails. -/
theorem tails_apply (r : Fin 2048) (p : Fin 200) : tails x (ix2 r p) = ((tail b r p : ℝ) : EReal) := by
  unfold tails
  refine (Ideal.matmul_plain_apply (M := 2048) (K := 200) (N := 200) none _ triangle _ r p).trans ?_
  show Ideal.ofBits .f32 0x00000000#32 + ∑ k : Fin 200, Ideal.exp (x (ix2 r k)) * triangle (ix2 k p) = _
  rw [Ideal.ofBits_zero_f32, zero_add]
  refine Cert.Loss.sum_fin_coe _ (fun q => if p.val ≤ q then Real.exp (b r q) else 0) fun k => ?_
  rw [hx, Ideal.exp_coe, triangle_apply]
  split <;> simp

/-- A quarter of the tails. -/
theorem quarter_apply (o : ℕ) (h : S2048x200.Slices ![o, 0] S512x200) (r : Fin 512) (p : Fin 200) :
    extractStridedSlice S512x200 ![o, 0] (tails x) h (ix2 r p) = ((tail b (o + r.val) p : ℝ) : EReal) := by
  have hlt : o + r.val < 2048 := by
    have h1 : o + 512 ≤ 2048 := h.2 0
    have := r.isLt
    omega
  refine (extractStridedSlice_apply _ (tails x) h (ix2 r p) (ix2 ⟨o + r.val, hlt⟩ p) fun a => ?_).trans (tails_apply hx ⟨o + r.val, hlt⟩ p)
  match a with
  | ⟨0, _⟩ => rfl
  | ⟨1, _⟩ => show p.val = 0 + p.val; omega

/-- The logarithms of the products of four quarters. -/
def logs (x : Vec Ideal S2048x200 .f32) : FVec Ideal S512x200 .f32 :=
  log (mulf (mulf (extractStridedSlice S512x200 ![0, 0] (tails x) slices_S2048x200_o0_0_S512x200) (extractStridedSlice S512x200 ![512, 0] (tails x) slices_S2048x200_o512_0_S512x200))
    (mulf (extractStridedSlice S512x200 ![1024, 0] (tails x) slices_S2048x200_o1024_0_S512x200) (extractStridedSlice S512x200 ![1536, 0] (tails x) slices_S2048x200_o1536_0_S512x200)))

theorem logs_apply (r : Fin 512) (p : Fin 200) :
    logs x (ix2 r p) = ((Real.log (tail b r p) + Real.log (tail b (512 + r) p) + (Real.log (tail b (1024 + r) p) + Real.log (tail b (1536 + r) p)) : ℝ) : EReal) := by
  have t := fun r => Cert.Loss.tail_pos b r p.isLt
  unfold logs
  show Ideal.log (extractStridedSlice S512x200 ![0, 0] (tails x) slices_S2048x200_o0_0_S512x200 (ix2 r p) * extractStridedSlice S512x200 ![512, 0] (tails x) slices_S2048x200_o512_0_S512x200 (ix2 r p)
    * (extractStridedSlice S512x200 ![1024, 0] (tails x) slices_S2048x200_o1024_0_S512x200 (ix2 r p) * extractStridedSlice S512x200 ![1536, 0] (tails x) slices_S2048x200_o1536_0_S512x200 (ix2 r p))) = _
  rw [quarter_apply hx, quarter_apply hx, quarter_apply hx, quarter_apply hx, Nat.zero_add, ← EReal.coe_mul, ← EReal.coe_mul, ← EReal.coe_mul, Ideal.log_coe,
    if_neg (not_le.2 (mul_pos (mul_pos (t _) (t _)) (mul_pos (t _) (t _)))),
    Real.log_mul (mul_pos (t _) (t _)).ne' (mul_pos (t _) (t _)).ne', Real.log_mul (t _).ne' (t _).ne', Real.log_mul (t _).ne' (t _).ne']

omit hx in
/-- The sum over four quarters of the rows is the sum over the rows. -/
theorem four_quarters (f : ℕ → ℝ) : ∑ r ∈ Finset.range 512, (f r + f (512 + r) + (f (1024 + r) + f (1536 + r))) = ∑ r ∈ Finset.range 2048, f r := by
  rw [show 2048 = 512 + 512 + 512 + 512 from rfl, Finset.sum_range_add, Finset.sum_range_add, Finset.sum_range_add]
  simp only [Finset.sum_add_distrib]
  ring

/-- The body's number after the block. -/
theorem payload (a : ℝ) : k0_pay1 x ((a : ℝ) : EReal) = ((a + (∑ r ∈ Finset.range 2048, ∑ p ∈ Finset.range 200, term b r p) / 4096 : ℝ) : EReal) := by
  show ((a : ℝ) : EReal) + Ideal.div
    (shapeCast S1x1x1 (Ideal.reduceAdd reduces_S1x512x200_S1 (shapeCast S1x512x200 (logs x) shapeCasts_S512x200_S1x512x200)) shapeCasts_S1_S1x1x1 (fun a => ⟨(![0, 0, 0] : Fin 3 → ℕ) a, inpos_S1x1x1_p0_0_0 a⟩)
      - shapeCast S1x1x1 (Ideal.reduceAdd reduces_S1x2048x200_S1 (shapeCast S1x2048x200 x shapeCasts_S2048x200_S1x2048x200)) shapeCasts_S1_S1x1x1 (fun a => ⟨(![0, 0, 0] : Fin 3 → ℕ) a, inpos_S1x1x1_p0_0_0 a⟩))
    (Ideal.ofBits .f32 0x45800000#32) = _
  have e1 : ∀ j, Ideal.reduceAdd reduces_S1x512x200_S1 (shapeCast S1x512x200 (logs x) shapeCasts_S512x200_S1x512x200) j
      = ((∑ r ∈ Finset.range 2048, ∑ p ∈ Finset.range 200, Real.log (tail b r p) : ℝ) : EReal) := fun j => by
    rw [Cert.Sums.block_sum (R := 512) (n := 200) (logs x) (fun r p => Real.log (tail b r p) + Real.log (tail b (512 + r) p) + (Real.log (tail b (1024 + r) p) + Real.log (tail b (1536 + r) p))) (logs_apply hx), ← four_quarters]
    simp only [Finset.sum_add_distrib]
  have e2 : ∀ j, Ideal.reduceAdd reduces_S1x2048x200_S1 (shapeCast S1x2048x200 x shapeCasts_S2048x200_S1x2048x200) j
      = ((∑ r ∈ Finset.range 2048, ∑ p ∈ Finset.range 200, b r p : ℝ) : EReal) := fun j =>
    Cert.Sums.block_sum (R := 2048) (n := 200) x b hx shapeCasts_S2048x200_S1x2048x200 reduces_S1x2048x200_S1 j
  unfold shapeCast at *
  rw [e1, e2, Cert.Sums.ofBits_4096, ← EReal.coe_sub, Ideal.div_coe (by norm_num), ← EReal.coe_mul, ← EReal.coe_add]
  unfold term
  simp only [Finset.sum_sub_distrib]
  rw [mul_one_div]

end Cert.Block

end
-- ==== Proof.KernelValue.lean ====
/-
  WHAT THE KERNEL'S RESULT HOLDS: the number after the second block. The first point stores zero and adds the first
  block's share to it; the second adds its own to what the first left; one write-back, after the second point.
-/
module

public import proofs.«01_k».proof.Proof.Gen.KernelIdeal.Value
public import Idealize.ShloMosaic.Lib.Tactic
public import Idealize.ShloMosaic.Lib.ValueIdxCore

@[expose] public section

noncomputable section

namespace Cert.KernelValue

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz1 : (![0] : Fin 1 → Nat) = fun _ => 0 := funext fun a => by fin_cases a; rfl

theorem hz2 : (![0, 0] : Fin 2 → Nat) = fun _ => 0 := funext fun a => by fin_cases a <;> rfl

/-- The second point leaves the payload of its block over what it found. -/
theorem out_B (c : Dev nD) (i : grid0.Coords) (a1 : Memref sig .tc .vmem S2048x200 .f32) (h1 : a1.IsWhole)
    (a2 : Memref sig .tc .smem S1 .f32) (h2 : a2.IsWhole) (hc : ¬cond0_0 i) (x : Vec F S2048x200 .f32) (xo : Vec F S1 .f32) :
    out0_B_1 c i a1 h1 a2 h2 hc x xo = fun _ => k0_pay1 x (xo (Shape.Idx.first (by decide))) := by
  unfold out0_B_1
  rw [View.read_writes_eq_canon _ _ _ (cover0_B_1 c i a1 h1 a2 h2 hc x xo)]
  unfold kernelRun0_B
  dsimp only
  sl_unfold_words
  rw [View.canon_unit_zero hz1]
  simp only [View.readAt_eq_ld, h1.read_unread, h2.read_unread, View.ld_unit_zero (S := S2048x200) hz2, View.ld_unit_zero (S := S1) hz1]
  funext _
  exact congrArg (k0_pay1 x) (congrFun (View.ld_unit_zero (S := S1) hz1 _ xo) _)

/-- The first point leaves the payload of its block over zero. -/
theorem out_A (c : Dev nD) (i : grid0.Coords) (a1 : Memref sig .tc .vmem S2048x200 .f32) (h1 : a1.IsWhole)
    (a2 : Memref sig .tc .smem S1 .f32) (h2 : a2.IsWhole) (hc : cond0_0 i) (x : Vec F S2048x200 .f32) :
    out0_A_1 c i a1 h1 a2 h2 hc x = fun _ => k0_pay1 x (Scalar.ofBits .f32 0x00000000#32) := by
  unfold out0_A_1
  rw [View.read_writes_eq_canon _ _ _ (cover0_A_1 c i a1 h1 a2 h2 hc x)]
  unfold kernelRun0_A
  dsimp only
  sl_unfold_words
  rw [View.canon_cons_unit_zero (S := S1) hz1]
  simp only [View.readAt_eq_ld, h1.read_unread, View.ld_unit_zero (S := S2048x200) hz2]
  rfl

/-- The number after the first block. -/
def first (c : Dev nD) : Elt F .f32 := k0_pay1 (iblk m c 0 t0_0) (Scalar.ofBits .f32 0x00000000#32)

/-- The result: the number after the second block. -/
def result (c : Dev nD) : Buf (Elt F) ((c : Thread nD τ).loc main_v0) := fun _ => k0_pay1 (iblk m c 0 t0_1) (first m c)

theorem outsAt_last (c : Dev nD) : outsAt0 m c t0_1.val t0_1.isLt = result m c := by
  rw [outsAt0_B m c t0_1 (by decide), out_B]
  show (fun _ => k0_pay1 (iblk m c 0 t0_1) (outsAt0 m c t0_0.val t0_0.isLt _)) = _
  rw [outsAt0_A m c t0_0 rfl, out_A]
  rfl

/-- The one write-back, after the second point, writes the constant array of that number. -/
theorem written (c : Dev nD) (t : Fin cfg0.N) (hf : (cfg0.win 1).flush t = true) :
    (dats m 0 c).flushed 1 t = ((cfg0.win 1).blk t).view.read (Elt F) (result m c) := by
  have ht : t = t0_1 := by
    have h2 : t.val < 2 := t.isLt
    have h1 := (flush0_1 t).1 hf
    exact Fin.ext (by show t.val = 1; omega)
  rw [ht, Cert.KernelIdeal.Value.flushed1, outsAt_last]
  rfl

/-- The one entry of the result lies in the block written back. -/
theorem covered (i : S1.Idx) : i ∈ ((cfg0.win 1).blk t0_1).view.set := by
  show i ∈ ((View.whole main_v0).slice (win0_1.rect t0_1)).set
  rw [View.set_slice_whole, Rect.mem_set_unit]
  refine fun a => ?_
  have ha : a = 0 := Subsingleton.elim (α := Fin 1) _ _
  have hi : (i 0 : ℕ) < 1 := (i 0).isLt
  subst ha
  have hlo : win0_1.index t0_1 0 * win0_1.size 0 = 0 := by decide +kernel
  have hsz : win0_1.xsize (grid0.coords t0_1) 0 = 1 := by decide +kernel
  exact ⟨hlo.trans_le (Nat.zero_le _), by
    show (i 0 : ℕ) < win0_1.index t0_1 0 * win0_1.size 0 + win0_1.xsize (grid0.coords t0_1) 0
    omega⟩

/-- So the result array ends holding it. -/
theorem final (c : Dev nD) : (dats m 0 c).arrAt 1 cfg0.N = result m c :=
  (dats m 0 c).arrAt_eq_of_cover 1 (result m c) (written m c) fun i => ⟨t0_1, (flush0_1 t0_1).2 rfl, covered i⟩

/-- Row `r` of the block at point `t` is row `2048 t + r` of the scores. -/
theorem block_apply (c : Dev nD) (t : Fin cfg0.N) (r : Fin 2048) (k : Fin 200) (q : Fin 4096) (hq : q.val = 2048 * t.val + r.val) :
    (iblk m c 0 t : Vec F S2048x200 .f32) (ValueIdx.ix2 r k) = (m ((c : Thread nD τ).loc main_arg0) : Vec F S4096x200 .f32) (ValueIdx.ix2 q k) := by
  have h0 : ∀ t : Fin cfg0.N, win0_0.index t 0 = t.val := fun t => by rcases fin_N0 t with rfl | rfl <;> decide
  have h1 : ∀ t : Fin cfg0.N, win0_0.index t 1 = 0 := fun t => by rcases fin_N0 t with rfl | rfl <;> decide
  refine congrArg (V m c main_arg0 : Vec F S4096x200 .f32) (funext fun a => Fin.ext ?_)
  match a with
  | ⟨0, _⟩ =>
    show win0_0.index t 0 * 2048 + 1 * r.val = q.val
    rw [h0, hq]
    omega
  | ⟨1, _⟩ =>
    show win0_0.index t 1 * 200 + 1 * k.val = k.val
    rw [h1]
    omega

end Cert.KernelValue

end
-- ==== Proof.LogSum.lean ====
/-
  Arrays of logarithms. The reference works on scores, which are logarithms of positive reals, and adds those reals by
  `log (exp x + exp y)`, computed as `max x y + log (1 + exp (-|x - y|))`. This module says what it means for a
  two-axis array to hold the logarithms of a table of positive reals (`Holds`), and that the reference's elementwise
  log-add (`logAdd`) of two such arrays holds the logarithms of the sums.
-/
module

public import Idealize.ShloMosaic.PureOps.Ideal
public import Idealize.ShloMosaic.PureOps.Ideal.Laws
public import Idealize.ShloMosaic.Lib.ValueIdx
public import Idealize.ShloMosaic.Lib.IdealHost
public import Mathlib.Analysis.SpecialFunctions.Log.Basic

@[expose] public section

noncomputable section

namespace Cert.LogSum

open Idealize.ShloMosaic Idealize.ShloMosaic.ValueIdx

/-- A matrix of single-precision reals, `r` rows of `n` entries. -/
abbrev Mat (r n : ℕ) : Type := FVec Ideal ⟨2, ![r, n]⟩ .f32

/-- The log-add of two reals `x ≥ y`, by the stable formula. -/
theorem log_add_of_le {a b : ℝ} (ha : 0 < a) (hb : 0 < b) (h : b ≤ a) :
    Real.log a + Real.log (1 + Real.exp (-(Real.log a - Real.log b))) = Real.log (a + b) := by
  have e : Real.exp (-(Real.log a - Real.log b)) = b / a := by
    rw [neg_sub, Real.exp_sub, Real.exp_log ha, Real.exp_log hb]
  rw [e, ← Real.log_mul ha.ne' (by positivity)]
  congr 1
  field_simp

/-- The log-add of two reals, by the stable formula. -/
theorem log_add {a b : ℝ} (ha : 0 < a) (hb : 0 < b) :
    max (Real.log a) (Real.log b) + Real.log (1 + Real.exp (-|Real.log a - Real.log b|)) = Real.log (a + b) := by
  rcases le_total b a with h | h
  · have hl : Real.log b ≤ Real.log a := Real.log_le_log hb h
    rw [max_eq_left hl, abs_of_nonneg (sub_nonneg.2 hl), log_add_of_le ha hb h]
  · have hl : Real.log a ≤ Real.log b := Real.log_le_log ha h
    rw [max_eq_right hl, abs_sub_comm, abs_of_nonneg (sub_nonneg.2 hl), log_add_of_le hb ha h, add_comm]

/-- The larger of a real and its negative, as an extended real, is its absolute value. -/
theorem max_neg_coe (d : ℝ) : max (d : EReal) (-(d : EReal)) = ((|d| : ℝ) : EReal) := by
  rw [← EReal.coe_neg]
  rcases le_total 0 d with h | h
  · rw [abs_of_nonneg h, max_eq_left (EReal.coe_le_coe_iff.2 (by linarith))]
  · rw [abs_of_nonpos h, max_eq_right (EReal.coe_le_coe_iff.2 (by linarith))]

/-- The larger of two reals, as extended reals. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The reference's elementwise log-add: where the difference is not a number the plain sum, elsewhere the stable
    formula. -/
def logAdd {s : Shape} (x y : FVec Ideal s .f32) : FVec Ideal s .f32 :=
  select (cmpf .une (subf x y) (subf x y)) (addf x y)
    (addf (maximumf x y) (Host.log1p (Host.exp (Host.negf (Host.absf (subf x y))))))

/-- The log-add of two logarithms is the logarithm of the sum. -/
theorem logAdd_apply {s : Shape} (x y : FVec Ideal s .f32) (i : s.Idx) {a b : ℝ} (ha : 0 < a) (hb : 0 < b)
    (hx : x i = ((Real.log a : ℝ) : EReal)) (hy : y i = ((Real.log b : ℝ) : EReal)) :
    logAdd x y i = ((Real.log (a + b) : ℝ) : EReal) := by
  have hc : cmpf .une (subf x y) (subf x y) i = 0#1 := by
    show Ideal.cmp .une _ _ = _
    simp [Ideal.cmp]
  unfold logAdd
  rw [select_apply, hc]
  show max (x i) (y i) + Ideal.log (1 + Ideal.exp (-(max (x i - y i) (-(x i - y i))))) = _
  rw [hx, hy, ← EReal.coe_sub, max_neg_coe, max_coe, ← EReal.coe_neg, Ideal.exp_coe, ← EReal.coe_one,
    ← EReal.coe_add, Ideal.log_coe, if_neg (not_le.2 (by positivity)), ← EReal.coe_add, log_add ha hb]

/-- `A` holds, entry by entry, the logarithms of the positive reals `g r j`. -/
def Holds {R n : ℕ} (A : Mat R n) (g : ℕ → ℕ → ℝ) : Prop :=
  ∀ (r : Fin R) (j : Fin n), 0 < g r j ∧ A (ix2 r j) = ((Real.log (g r j) : ℝ) : EReal)

/-- The log-add of two arrays of logarithms holds the logarithms of the sums. -/
theorem Holds.logAdd {R n : ℕ} {x y : Mat R n} {g h : ℕ → ℕ → ℝ} (hx : Holds x g) (hy : Holds y h) :
    Holds (logAdd x y) fun r j => g r j + h r j := fun r j =>
  ⟨add_pos (hx r j).1 (hy r j).1, logAdd_apply x y _ (hx r j).1 (hy r j).1 (hx r j).2 (hy r j).2⟩

/-- Tables that agree may stand for each other. -/
theorem Holds.congr {R n : ℕ} {x : Mat R n} {g h : ℕ → ℕ → ℝ} (hx : Holds x g) (e : ∀ r j, g r j = h r j) : Holds x h :=
  fun r j => by rw [← e]; exact hx r j

end Cert.LogSum

end
-- ==== Proof.Scan.lean ====
/-
  One level of the reference's associative scan, on arrays of logarithms. On the way down the scan adds neighbours
  (`Holds.down`); on the way up it interleaves the scan of the pairs, at the odd places, with the log-adds of that scan
  and the next even entry, at the even places (`Holds.up`). Each holds the logarithms of the matching sums of reals:
  `pairs` and `prefixes`.
-/
module

public import proofs.«01_k».proof.Proof.LogSum
public import Idealize.ShloMosaic.Lib.KernelVsHost
public import Idealize.ShloMosaic.Lib.Pipeline.Value

@[expose] public section

noncomputable section

namespace Cert.LogSum

open Idealize.ShloMosaic Idealize.ShloMosaic.ValueIdx
open scoped BigOperators

/-- The table of the sums of neighbours. -/
def pairs (g : ℕ → ℕ → ℝ) : ℕ → ℕ → ℝ := fun r j => g r (2 * j) + g r (2 * j + 1)

/-- The table of the sums from the start of a row up to and including an entry. -/
def prefixes (g : ℕ → ℕ → ℝ) : ℕ → ℕ → ℝ := fun r j => ∑ k ∈ Finset.range (j + 1), g r k

/-- A prefix of the pairs is a prefix of the table that ends at an odd place. -/
theorem prefixes_pairs (g : ℕ → ℕ → ℝ) (r j : ℕ) : prefixes (pairs g) r j = prefixes g r (2 * j + 1) := by
  unfold prefixes pairs
  induction j with
  | zero => simp [Finset.sum_range_succ]
  | succ j ih =>
    rw [Finset.sum_range_succ, ih, show 2 * (j + 1) + 1 + 1 = 2 * j + 1 + 1 + 1 + 1 from by ring,
      Finset.sum_range_succ _ (2 * j + 1 + 1 + 1), Finset.sum_range_succ _ (2 * j + 1 + 1),
      show 2 * (j + 1) = 2 * j + 1 + 1 from by ring]
    ring

/-- A prefix of the pairs and the next even entry make the next prefix at an even place. -/
theorem prefixes_even (g : ℕ → ℕ → ℝ) (r j : ℕ) :
    prefixes (pairs g) r j + g r (2 + 2 * j) = prefixes g r (2 * j + 2) := by
  rw [prefixes_pairs]
  unfold prefixes
  rw [Finset.sum_range_succ _ (2 * j + 2), show 2 + 2 * j = 2 * j + 2 from by ring]

/-- The entries at every second place from `b` on. -/
theorem Holds.stride {R n q : ℕ} {A : Mat R n} {g : ℕ → ℕ → ℝ} (hA : Holds A g) (b : ℕ)
    (h : (⟨2, ![R, n]⟩ : Shape).SlicesBy ![0, b] ![1, 2] ⟨2, ![R, q]⟩) :
    Holds (Host.slice ⟨2, ![R, q]⟩ ![0, b] ![1, 2] A h) fun r j => g r (b + 2 * j) := by
  intro r j
  have hlt : b + 2 * j.val < n := by
    have h1 := (h.2 1).2
    have hj := j.isLt
    have h2 : q = 0 ∨ b + 2 * (q - 1) < n := h1
    omega
  have e : Host.slice ⟨2, ![R, q]⟩ ![0, b] ![1, 2] A h (ix2 r j) = A (ix2 r ⟨b + 2 * j.val, hlt⟩) := by
    unfold Host.slice
    refine congrArg A (funext fun a => Fin.ext ?_)
    match a with
    | ⟨0, _⟩ => show 0 + 1 * r.val = r.val; omega
    | ⟨1, _⟩ => rfl
  exact ⟨(hA r ⟨_, hlt⟩).1, e.trans (hA r ⟨_, hlt⟩).2⟩

/-- The first entries of each row. -/
theorem Holds.first {R n q : ℕ} {A : Mat R n} {g : ℕ → ℕ → ℝ} (hA : Holds A g)
    (h : (⟨2, ![R, n]⟩ : Shape).Slices ![0, 0] ⟨2, ![R, q]⟩) :
    Holds (extractStridedSlice ⟨2, ![R, q]⟩ ![0, 0] A h) g := by
  intro r j
  have hlt : j.val < n := by
    have h1 : 0 + q ≤ n := h.2 1
    have := j.isLt
    omega
  have e : extractStridedSlice ⟨2, ![R, q]⟩ ![0, 0] A h (ix2 r j) = A (ix2 r ⟨j.val, hlt⟩) := by
    refine extractStridedSlice_apply _ A h _ _ fun a => ?_
    match a with
    | ⟨0, _⟩ => show r.val = 0 + r.val; omega
    | ⟨1, _⟩ => show j.val = 0 + j.val; omega
  exact ⟨(hA r ⟨_, hlt⟩).1, e.trans (hA r ⟨_, hlt⟩).2⟩

/-- THE WAY DOWN: the log-adds of neighbours hold the pairs. -/
theorem Holds.down {R n q : ℕ} {A : Mat R n} {g : ℕ → ℕ → ℝ} (hA : Holds A g)
    (h0 : (⟨2, ![R, n]⟩ : Shape).SlicesBy ![0, 0] ![1, 2] ⟨2, ![R, q]⟩)
    (h1 : (⟨2, ![R, n]⟩ : Shape).SlicesBy ![0, 1] ![1, 2] ⟨2, ![R, q]⟩) :
    Holds (Cert.LogSum.logAdd (Host.slice ⟨2, ![R, q]⟩ ![0, 0] ![1, 2] A h0) (Host.slice ⟨2, ![R, q]⟩ ![0, 1] ![1, 2] A h1))
      (pairs g) :=
  ((hA.stride 0 h0).logAdd (hA.stride 1 h1)).congr fun r j => by
    unfold pairs
    rw [Nat.zero_add, Nat.add_comm 1]

/-- The padding value of the scan: zero. -/
theorem pad_zero (hu : 0 < (⟨0, ![]⟩ : Shape).numel) :
    (constant ⟨0, ![]⟩ .f32 0x00000000#32 : FVec Ideal ⟨0, ![]⟩ .f32) (Shape.Idx.first hu) = 0 :=
  Ideal.ofBits_zero_f32

/-- The even places: a row's first entry, then the log-adds, spread to every second place. -/
theorem even_apply {R n p q e k : ℕ} (A : Mat R 1) (D : Mat R q)
    (hc : Shape.Concatenates [⟨2, ![R, 1]⟩, ⟨2, ![R, q]⟩] ⟨2, ![R, p]⟩ 1) (z : FVec Ideal ⟨0, ![]⟩ .f32)
    (hp : (⟨2, ![R, p]⟩ : Shape).Pads ![0, 0] ![0, e] ![0, 1] ⟨2, ![R, n]⟩) (hu : 0 < (⟨0, ![]⟩ : Shape).numel)
    (r : Fin R) (j : Fin n) (hj : j.val = 2 * k) (hk : k < p) :
    pad ⟨2, ![R, n]⟩ ![0, 0] ![0, e] ![0, 1] (concatenate ⟨2, ![R, p]⟩ 1 [⟨⟨2, ![R, 1]⟩, A⟩, ⟨⟨2, ![R, q]⟩, D⟩] hc) z hp hu (ix2 r j)
      = concatenate ⟨2, ![R, p]⟩ 1 [⟨⟨2, ![R, 1]⟩, A⟩, ⟨⟨2, ![R, q]⟩, D⟩] hc (ix2 r ⟨k, hk⟩) := by
  refine pad_apply_of_inside _ _ _ _ _ hp hu _ _ fun a => ?_
  match a with
  | ⟨0, _⟩ => show r.val = 0 + r.val * (0 + 1); omega
  | ⟨1, _⟩ => show j.val = 0 + k * (1 + 1); omega

/-- A row's first entry. -/
theorem concat_zero {R p q : ℕ} (A : Mat R 1) (D : Mat R q)
    (hc : Shape.Concatenates [⟨2, ![R, 1]⟩, ⟨2, ![R, q]⟩] ⟨2, ![R, p]⟩ 1) (r : Fin R) (hk : 0 < p) :
    concatenate ⟨2, ![R, p]⟩ 1 [⟨⟨2, ![R, 1]⟩, A⟩, ⟨⟨2, ![R, q]⟩, D⟩] hc (ix2 r ⟨0, hk⟩) = A (ix2 r 0) := by
  refine concatenate_pair_apply_left _ _ _ hc _ rfl (ix2 r 0) fun b => ?_
  match b with
  | ⟨0, _⟩ => rfl
  | ⟨1, _⟩ => rfl

/-- The entries after a row's first one. -/
theorem concat_succ {R p q : ℕ} (A : Mat R 1) (D : Mat R q)
    (hc : Shape.Concatenates [⟨2, ![R, 1]⟩, ⟨2, ![R, q]⟩] ⟨2, ![R, p]⟩ 1) (r : Fin R) (k : ℕ) (hk : k + 1 < p) (hq : k < q) :
    concatenate ⟨2, ![R, p]⟩ 1 [⟨⟨2, ![R, 1]⟩, A⟩, ⟨⟨2, ![R, q]⟩, D⟩] hc (ix2 r ⟨k + 1, hk⟩) = D (ix2 r ⟨k, hq⟩) := by
  refine concatenate_pair_apply_right _ _ _ hc _ rfl rfl (ix2 r ⟨k, hq⟩) (fun b hb => ?_) ?_
  · match b with
    | ⟨0, _⟩ => rfl
    | ⟨1, _⟩ => exact absurd rfl hb
  · show k + 1 = k + 1
    rfl

/-- THE WAY UP: the scan of the pairs at the odd places, and at the even places a row's first entry and the log-adds of
    that scan with the next even entry, hold the prefixes. -/
theorem Holds.up {R n m p q e o : ℕ} {A : Mat R n} {C : Mat R m} {x : Mat R q} {g : ℕ → ℕ → ℝ}
    (hA : Holds A g) (hC : Holds C (prefixes (pairs g))) (hx : Holds x (prefixes (pairs g)))
    (hs : (⟨2, ![R, n]⟩ : Shape).SlicesBy ![0, 2] ![1, 2] ⟨2, ![R, q]⟩)
    (hf : (⟨2, ![R, n]⟩ : Shape).Slices ![0, 0] ⟨2, ![R, 1]⟩)
    (hc : Shape.Concatenates [⟨2, ![R, 1]⟩, ⟨2, ![R, q]⟩] ⟨2, ![R, p]⟩ 1)
    (hp : (⟨2, ![R, p]⟩ : Shape).Pads ![0, 0] ![0, e] ![0, 1] ⟨2, ![R, n]⟩)
    (ho : (⟨2, ![R, m]⟩ : Shape).Pads ![0, 1] ![0, o] ![0, 1] ⟨2, ![R, n]⟩)
    (hu : 0 < (⟨0, ![]⟩ : Shape).numel) (hpn : p = q + 1) (hnp : n ≤ 2 * p) (hnm : n ≤ 2 * m + 1) :
    Holds (addf
        (pad ⟨2, ![R, n]⟩ ![0, 0] ![0, e] ![0, 1]
          (concatenate ⟨2, ![R, p]⟩ 1 [⟨⟨2, ![R, 1]⟩, extractStridedSlice ⟨2, ![R, 1]⟩ ![0, 0] A hf⟩,
            ⟨⟨2, ![R, q]⟩, Cert.LogSum.logAdd x (Host.slice ⟨2, ![R, q]⟩ ![0, 2] ![1, 2] A hs)⟩] hc)
          (constant ⟨0, ![]⟩ .f32 0x00000000#32) hp hu)
        (pad ⟨2, ![R, n]⟩ ![0, 1] ![0, o] ![0, 1] C (constant ⟨0, ![]⟩ .f32 0x00000000#32) ho hu))
      (prefixes g) := by
  have hF := hA.first hf
  have hD := (hx.logAdd (hA.stride 2 hs)).congr (h := fun r j => prefixes g r (2 * j + 2)) fun r j => prefixes_even g r j
  intro r j
  have hadd : ∀ a b : Mat R n, addf a b (ix2 r j) = a (ix2 r j) + b (ix2 r j) := fun _ _ => rfl
  rw [hadd]
  rcases Nat.even_or_odd' j.val with ⟨k, hj | hj⟩
  · have hk : k < p := by have := j.isLt; omega
    rw [even_apply _ _ hc _ hp hu r j hj hk, pad_apply_of_not_inside _ _ _ C _ ho hu _ 1 (by
      rintro ⟨h1, h2, _⟩
      have h1' : 1 ≤ j.val := h1
      have h2' : (j.val - 1) % (1 + 1) = 0 := h2
      omega), pad_zero, add_zero, hj]
    match k, hk, hj with
    | 0, hk, hj =>
      rw [concat_zero]
      have := hF r 0
      simpa [prefixes] using this
    | k + 1, hk, hj =>
      have hq : k < q := by omega
      rw [concat_succ _ _ hc r k hk hq]
      exact hD r ⟨k, hq⟩
  · have hm : k < m := by have := j.isLt; omega
    have e1 : pad ⟨2, ![R, n]⟩ ![0, 1] ![0, o] ![0, 1] C (constant ⟨0, ![]⟩ .f32 0x00000000#32) ho hu (ix2 r j)
        = C (ix2 r ⟨k, hm⟩) := by
      refine pad_apply_of_inside _ _ _ _ _ ho hu _ _ fun a => ?_
      match a with
      | ⟨0, _⟩ => show r.val = 0 + r.val * (0 + 1); omega
      | ⟨1, _⟩ => show j.val = 1 + k * (1 + 1); omega
    rw [pad_apply_of_not_inside _ _ _ _ _ hp hu _ 1 (by
      rintro ⟨_, h2, _⟩
      have h2' : (j.val - 0) % (1 + 1) = 0 := h2
      omega), pad_zero, zero_add, e1, hj, ← prefixes_pairs]
    exact hC r ⟨k, hm⟩

end Cert.LogSum

end
-- ==== Proof.InOrder.lean ====
/-
  Sorting what is already sorted. A stable sort of keys that already stand in order moves nothing, so an argsort of them
  is the list of the places (`sort2_snd_of_ordered`), and a gather along each row at those places reads each entry where
  it stands (`gather_rows_apply`).
-/
module

public import Idealize.ShloMosaic.PureOps.ShapeOps
public import Idealize.ShloMosaic.Lib.ValueIdx

@[expose] public section

namespace Cert.InOrder

open Idealize.ShloMosaic Idealize.ShloMosaic.ValueIdx

/-- A list in which no later element sorts before an earlier one is its own stable sort. -/
theorem stableSort_of_pairwise {ι : Type} (before : ι → ι → Bool) :
    ∀ l : List ι, l.Pairwise (fun a b => before b a = false) → stableSort before l = l
  | [], _ => rfl
  | [a], _ => rfl
  | a :: b :: l, h => by
    have h1 := List.pairwise_cons.1 h
    rw [stableSort, stableSort_of_pairwise before (b :: l) h1.2, insertBefore, h1.1 b List.mem_cons_self]
    rfl

/-- When no later position sorts before an earlier one, each position keeps its element. -/
theorem sortedFrom_of_ordered {n : Nat} (before : Fin n → Fin n → Bool)
    (h : ∀ k k' : Fin n, k < k' → before k' k = false) (k : Fin n) : sortedFrom before k = k := by
  have hs : sortPositions n before = List.finRange n :=
    stableSort_of_pairwise before _ ((List.pairwise_lt_finRange n).imp fun hlt => h _ _ hlt)
  unfold sortedFrom
  rw [List.get_of_eq hs]
  simp

/-- A stable sort of a matrix's rows whose keys stand in order leaves the carried operand as it is. -/
theorem sort2_snd_of_ordered {R n : ℕ} {α β : Type} (cmp : α × β → α × β → BitVec 1)
    (x : (⟨2, ![R, n]⟩ : Shape).Idx → α) (y : (⟨2, ![R, n]⟩ : Shape).Idx → β) (r : Fin R)
    (h : ∀ k k' : Fin n, k < k' → cmp (x (ix2 r k'), y (ix2 r k')) (x (ix2 r k), y (ix2 r k)) ≠ 1#1) (k : Fin n) :
    (Host.sort2 ⟨2, ![R, n]⟩ 1 cmp x y).2 (ix2 r k) = y (ix2 r k) := by
  have ha : ∀ k' : Fin n, Shape.Idx.along (s := ⟨2, ![R, n]⟩) (ix2 r k) 1 k' = ix2 r k' := fun k' => by
    funext a
    match a with
    | ⟨0, _⟩ => rfl
    | ⟨1, _⟩ => rfl
  have hlt : 1 < (⟨2, ![R, n]⟩ : Shape).rank := Nat.one_lt_two
  unfold Host.sort2
  rw [dif_pos hlt]
  show y (Shape.Idx.along (s := ⟨2, ![R, n]⟩) (ix2 r k) 1 (sortedFrom (n := n) (fun k₁ k₂ =>
    cmp (x (Shape.Idx.along (s := ⟨2, ![R, n]⟩) (ix2 r k) 1 k₁), y (Shape.Idx.along (s := ⟨2, ![R, n]⟩) (ix2 r k) 1 k₁))
      (x (Shape.Idx.along (s := ⟨2, ![R, n]⟩) (ix2 r k) 1 k₂), y (Shape.Idx.along (s := ⟨2, ![R, n]⟩) (ix2 r k) 1 k₂)) == 1#1) k)) = _
  rw [ha, sortedFrom_of_ordered _ fun k₁ k₂ hk => by rw [ha, ha]; simpa using h k₁ k₂ hk]

/-- The dimension numbers of a gather along each row of an `R × n` operand, one entry for each of `q` places of the row. -/
abbrev rowDims (R n q : ℕ)
    (wf : GatherDims.WF ⟨2, ![R, n]⟩ ⟨3, ![R, q, 1]⟩ ⟨2, ![R, q]⟩ [] [1] [0] [1] [0] 2 ![1, 1]) :
    GatherDims ⟨2, ![R, n]⟩ ⟨3, ![R, q, 1]⟩ ⟨2, ![R, q]⟩ where
  offsetDims := []
  collapsedSliceDims := [1]
  operandBatchingDims := [0]
  startIndicesBatchingDims := [0]
  startIndexMap := [1]
  indexVectorDim := 2
  sliceSizes := ![1, 1]
  wf := wf

/-- A gather along each row reads, at row `r` and place `k`, the operand's row `r` at the place the index names. -/
theorem gather_rows_apply {R n q w : ℕ} {α : Type}
    (wf : GatherDims.WF ⟨2, ![R, n]⟩ ⟨3, ![R, q, 1]⟩ ⟨2, ![R, q]⟩ [] [1] [0] [1] [0] 2 ![1, 1])
    (x : (⟨2, ![R, n]⟩ : Shape).Idx → α) (idx : IVec ⟨3, ![R, q, 1]⟩ w) (r : Fin R) (k : Fin q) (p : Fin n)
    (hp : (idx (ix3 r k 0)).toInt.toNat = p.val) :
    Host.gather (rowDims R n q wf) x idx (ix2 r k) = x (ix2 r p) := by
  unfold Host.gather
  refine congrArg x (funext fun a => Fin.ext ?_)
  show (rowDims R n q wf).start (ix2 r k) idx a + (rowDims R n q wf).batchCoord (ix2 r k) a
    + (rowDims R n q wf).offCoord (ix2 r k) a = _
  match a with
  | ⟨0, _⟩ =>
    have h0 : (⟨0, by decide⟩ : Fin 2) ∈ (rowDims R n q wf).operandBatchingDims := List.mem_singleton.2 rfl
    rw [GatherDims.start_batching _ _ _ _ h0,
      GatherDims.offCoord_eq_zero _ _ _ fun h => ((GatherDims.mem_sKept _ _).1 h).2 h0, Nat.zero_add, Nat.add_zero]
    unfold GatherDims.batchCoord
    rw [dif_pos h0]
    rfl
  | ⟨1, _⟩ =>
    have h1 : (⟨1, by decide⟩ : Fin 2) ∈ (rowDims R n q wf).startIndexMap := List.mem_singleton.2 rfl
    have hb : (⟨1, by decide⟩ : Fin 2) ∉ (rowDims R n q wf).operandBatchingDims := fun h =>
      Nat.one_ne_zero (congrArg Fin.val (List.mem_singleton.1 h))
    rw [GatherDims.batchCoord_eq_zero _ _ _ hb,
      GatherDims.offCoord_eq_zero _ _ _ fun h => ((GatherDims.mem_sKept _ _).1 h).1 (List.mem_singleton.2 rfl)]
    unfold GatherDims.start
    rw [dif_pos h1]
    have hi : (rowDims R n q wf).siIdx (ix2 r k) ⟨List.idxOf (⟨1, by decide⟩ : Fin 2) (rowDims R n q wf).startIndexMap,
        List.idxOf_lt_length_iff.2 h1⟩ = ix3 r k 0 := by
      funext b
      refine Fin.ext ?_
      match b with
      | ⟨0, _⟩ => rfl
      | ⟨1, _⟩ => rfl
      | ⟨2, _⟩ => rfl
    rw [hi, hp]
    show min p.val (n - 1) + 0 + 0 = p.val
    have := p.isLt
    omega

end Cert.InOrder
-- ==== Proof.Words.lean ====
/-
  What the reference's integer steps compute, stated on plain arrays: wrapping a table of places, checking that they are
  in range, and counting the ones of a row.
-/
module

public import Idealize.ShloMosaic.Lib.IdealHost
public import Idealize.ShloMosaic.Lib.ReduceAll
public import Idealize.ShloMosaic.Lib.IndicatorCount
public import Idealize.ShloMosaic.Lib.WordCmp
public import Idealize.ShloMosaic.Lib.Pipeline.Value
public import Idealize.ShloMosaic.Lib.Pointwise.Reduce
public import Idealize.ShloMosaic.Lib.Pointwise.Reshape

@[expose] public section

noncomputable section

namespace Cert.Words

open Idealize.ShloMosaic.WordCmp
open Idealize.ShloMosaic hiding ix1 ix2 ix3 eq_ix1 eq_ix2 eq_ix3
open Idealize.ShloMosaic.ValueIdx

/-- Where the condition is one, a select is its first branch. -/
theorem select_of_one {s : Shape} {α : Type} (c : IVec s 1) (a b : s.Idx → α) (i : s.Idx) (hc : c i = 1#1) : select c a b i = a i := by
  show Scalar.select (c i) (a i) (b i) = a i
  rw [hc]
  exact ValueIdx.select_one _ _

/-- A table of places, with the row length added to its negative entries (there are none) and reshaped, is that table. -/
theorem wrapped {R n : ℕ} (hn : n < 2 ^ 31) (p : IVec ⟨2, ![R, n]⟩ 32) (r : Fin R) (k : Fin n) (e : Fin 1)
    (hp : p (ix2 r k) = BitVec.ofNat 32 k.val) (q z : IVec ⟨2, ![R, n]⟩ 32) (hz : z (ix2 r k) = BitVec.ofNat 32 0)
    (h : (⟨2, ![R, n]⟩ : Shape).ShapeCasts ⟨3, ![R, n, 1]⟩) :
    shapeCast ⟨3, ![R, n, 1]⟩ (select (cmpi .slt p z) (addi p q) p) h (ix3 r k e) = BitVec.ofNat 32 k.val := by
  rw [shapeCast_apply _ h (ix3 r k e) (ix2 r k) (by
    rw [Shape.rowMajor_val_two, Shape.rowMajor_val_three]
    have := e.isLt
    show r.val * n + k.val = (r.val * n + k.val) * 1 + e.val
    omega), select_apply]
  have hk := k.isLt
  have hc : cmpi .slt p z (ix2 r k) = 0#1 := by
    show IntOp.cmpi .slt (p (ix2 r k)) (z (ix2 r k)) = 0#1
    rw [hp, hz, cmpi_slt_ofNat_eq_zero_iff (w := 32) (by omega) (by decide)]
    omega
  rw [hc, ValueIdx.select_zero, hp]

/-- The conjunction, over a unit axis, of the checks that a table of places lies between 0 and 199. -/
theorem in_range {R : ℕ} (p lo hi : IVec ⟨3, ![R, 200, 1]⟩ 32) (hp : ∀ r k e, p (ix3 r k e) = BitVec.ofNat 32 k.val)
    (hlo : ∀ i, lo i = BitVec.ofNat 32 0) (hhi : ∀ i, hi i = BitVec.ofNat 32 199)
    (h : (⟨3, ![R, 200, 1]⟩ : Shape).ReducesTo [2] ⟨2, ![R, 200]⟩) (hu : 0 < (⟨0, ![]⟩ : Shape).numel) (i : (⟨2, ![R, 200]⟩ : Shape).Idx) :
    Host.reduce IntOp.andi (andi (cmpi .sge p lo) (cmpi .sle p hi)) (constantI ⟨0, ![]⟩ 1 1#1) h hu i = 1#1 := by
  refine Host.reduce_andi_one _ _ _ _ i rfl fun j => ?_
  have hk : (j 1).val < 200 := (j 1).isLt
  have hj : p j = BitVec.ofNat 32 (j 1).val := (congrArg p (eq_ix3 j)).trans (hp (j 0) (j 1) (j 2))
  show IntOp.andi (IntOp.cmpi .sge (p j) (lo j)) (IntOp.cmpi .sle (p j) (hi j)) = 1#1
  rw [hj, hlo, hhi, (cmpi_sge_ofNat_eq_one_iff (w := 32) (by omega) (by decide)).2 (Nat.zero_le _),
    (cmpi_sle_ofNat_eq_one_iff (w := 32) (by omega) (by decide)).2 (by omega)]
  rfl

/-- The number of ones in a row of ones is the row's length. -/
theorem count_ones {R n : ℕ} (v : IVec ⟨2, ![R, n]⟩ 1) (hv : ∀ i, v i = 1#1) (h1 : 1 < 32)
    (h : (⟨2, ![R, n]⟩ : Shape).ReducesTo [1] ⟨1, ![R]⟩) (hu : 0 < (⟨0, ![]⟩ : Shape).numel) (i : (⟨1, ![R]⟩ : Shape).Idx) :
    Host.reduce IntOp.addi (extui 32 v h1) (constantI ⟨0, ![]⟩ 32 0#32) h hu i = BitVec.ofNat 32 n := by
  have hv' : v = fun _ => 1#1 := funext hv
  subst hv'
  simp only [pointwise]
  refine (IndicatorCount.fold_addi_setWidth_eq_card (w := 32) (fun _ : Fin n => (1#1 : BitVec 1)) Finset.univ).trans ?_
  simp

end Cert.Words

end
-- ==== Proof.RefOrder.lean ====
/-
  The reference's first steps on races in which every horse runs, listed in finishing order. The rankings' argsort is
  then the list of the places, so the gathered mask is all ones, the gathered scores are the scores (divided by the
  temperature, one), and each race counts 200 valid horses.
-/
module

public import proofs.«01_k».proof.Proof.InOrder
public import proofs.«01_k».proof.Proof.Gen.ReferenceIdeal.Run
public import proofs.«01_k».proof.Proof.Words

@[expose] public section

noncomputable section

namespace Cert.RefOrder

open Cert.ReferenceIdeal Cert.ReferenceIdeal.Gen Cert.ReferenceIdeal.Value
open Idealize.ShloMosaic hiding ix1 ix2 ix3 eq_ix1 eq_ix2 eq_ix3
open Idealize.ShloMosaic.TcCoe Idealize.ShloMosaic.ValueIdx

/-- What the precondition says of the reference's arguments: the scores are the reals `s`, every horse runs, and no later
    horse of a race has a smaller ranking than an earlier one. -/
structure InOrder (V : Valuation τ sig (Elt Ideal)) (s : ℕ → ℕ → ℝ) : Prop where
  score : ∀ (r : Fin 4096) (k : Fin 200), (V (Proc.devRef .tc main_arg0) : FVec Ideal S4096x200 .f32) (ix2 r k) = ((s r k : ℝ) : EReal)
  runs : ∀ i : S4096x200.Idx, (V (Proc.devRef .tc main_arg2) : IVec S4096x200 1) i = 1#1
  ordered : ∀ (r : Fin 4096) (k k' : Fin 200), k < k' →
    IntOp.cmpi .slt ((V (Proc.devRef .tc main_arg1) : IVec S4096x200 32) (ix2 r k')) ((V (Proc.devRef .tc main_arg1) : IVec S4096x200 32) (ix2 r k)) ≠ 1#1

variable {V : Valuation τ sig (Elt Ideal)} {s : ℕ → ℕ → ℝ} (H : InOrder V s)
include H

/-- The sorted keys are the rankings. -/
theorem keys (i : S4096x200.Idx) : (res_main_v2 V : IVec S4096x200 32) i = (V (Proc.devRef .tc main_arg1) : IVec S4096x200 32) i := by
  unfold res_main_v2
  exact Cert.Words.select_of_one _ _ _ i (H.runs i)

/-- The argsort of the rankings is the list of the places. -/
theorem places (r : Fin 4096) (k : Fin 200) : (res_main_v3 V : IVec S4096x200 32) (ix2 r k) = BitVec.ofNat 32 k.val := by
  unfold res_main_v3
  rw [Cert.InOrder.sort2_snd_of_ordered (R := 4096) (n := 200) comparator_i32_i32_d1 (res_main_v2 V) (res_main_call1_v0 V) r
    (fun k k' hk => by
      show IntOp.cmpi .slt ((res_main_v2 V : IVec S4096x200 32) (ix2 r k')) ((res_main_v2 V : IVec S4096x200 32) (ix2 r k)) ≠ 1#1
      rw [keys H, keys H]
      exact H.ordered r k k' hk) k]
  rfl

/-- The gather's indices, reshaped: each entry's place. -/
theorem indices (r : Fin 4096) (k : Fin 200) (e : Fin 1) :
    (res_main_call2_v5 V : IVec S4096x200x1 32) (ix3 r k e) = BitVec.ofNat 32 k.val := by
  unfold res_main_call2_v5
  exact Cert.Words.wrapped (R := 4096) (n := 200) (by decide) (res_main_v3 V) r k e (places H r k) _ _ rfl shapeCasts_S4096x200_S4096x200x1

/-- The same indices, computed a second time for the mask. -/
theorem indices' (r : Fin 4096) (k : Fin 200) (e : Fin 1) :
    (res_main_call3_v5 V : IVec S4096x200x1 32) (ix3 r k e) = BitVec.ofNat 32 k.val := by
  unfold res_main_call3_v5
  exact Cert.Words.wrapped (R := 4096) (n := 200) (by decide) (res_main_v3 V) r k e (places H r k) _ _ rfl shapeCasts_S4096x200_S4096x200x1

/-- The gathered mask is all ones. -/
theorem allRun (i : S4096x200.Idx) : (res_main_v5 V : IVec S4096x200 1) i = 1#1 := by
  unfold res_main_v5
  refine (Cert.Words.select_of_one _ _ _ i ?_).trans (H.runs _)
  exact Cert.Words.in_range (R := 4096) (res_main_call3_v5 V) _ _ (indices' H)
    (fun _ => rfl) (fun _ => rfl) reducesTo_S4096x200x1_S4096x200_d2 h_S_ i

/-- The gathered scores are the scores. -/
theorem scores (r : Fin 4096) (k : Fin 200) : (res_main_v6 V : FVec Ideal S4096x200 .f32) (ix2 r k) = ((s r k : ℝ) : EReal) := by
  unfold res_main_v6
  refine (Cert.Words.select_of_one _ _ _ (ix2 r k) (allRun H (ix2 r k))).trans ?_
  refine (Cert.Words.select_of_one _ _ _ (ix2 r k) ?_).trans ?_
  · exact Cert.Words.in_range (R := 4096) (res_main_call2_v5 V) _ _ (indices H)
      (fun _ => rfl) (fun _ => rfl) reducesTo_S4096x200x1_S4096x200_d2 h_S_ (ix2 r k)
  refine (Cert.InOrder.gather_rows_apply (R := 4096) (n := 200) (q := 200)
    gather_S4096x200_S4096x200x1_S4096x200_n_1_0_0_1_2_11_wf _ _ r k k ?_).trans ?_
  · have hk := k.isLt
    refine (congrArg (fun w : BitVec 32 => w.toInt.toNat) (indices H r k 0)).trans ?_
    show (BitVec.ofNat 32 k.val).toInt.toNat = k.val
    rw [BitVec.toInt_eq_toNat_of_lt (by rw [BitVec.toNat_ofNat]; omega), BitVec.toNat_ofNat]
    omega
  · show Ideal.div ((V (Proc.devRef .tc main_arg0) : FVec Ideal S4096x200 .f32) (ix2 r k)) (Ideal.ofBits .f32 0x3F800000#32) = _
    rw [H.score, Ideal.ofBits_one_f32, ← EReal.coe_one, Ideal.div_coe one_ne_zero]
    simp

/-- The reversed scores. -/
theorem reversed (r : Fin 4096) (k : Fin 200) : (res_main_v7 V : FVec Ideal S4096x200 .f32) (ix2 r k) = ((s r (199 - k.val) : ℝ) : EReal) := by
  unfold res_main_v7
  have e : Host.reverse [1] (res_main_v6 V : FVec Ideal S4096x200 .f32) (ix2 r k) = (res_main_v6 V : FVec Ideal S4096x200 .f32) (ix2 r k.rev) := by
    unfold Host.reverse
    refine congrArg (res_main_v6 V : FVec Ideal S4096x200 .f32) (funext fun a => ?_)
    match a with
    | ⟨0, _⟩ => rfl
    | ⟨1, _⟩ => rfl
  refine e.trans ((scores H r k.rev).trans ?_)
  have : (k.rev : Fin 200).val = 199 - k.val := by rw [Fin.val_rev]; omega
  rw [this]

/-- Each race counts 200 valid horses. -/
theorem count (i : S4096.Idx) : (res_main_v211 V : IVec S4096 32) i = BitVec.ofNat 32 200 := by
  unfold res_main_v211
  exact Cert.Words.count_ones (R := 4096) (n := 200) (res_main_v5 V) (allRun H) natLt_1_32 reducesTo_S4096x200_S4096_d1 h_S_ i

/-- Each race counts as valid. -/
theorem valid (i : S4096.Idx) : (res_main_v224 V : IVec S4096 1) i = 1#1 := by
  unfold res_main_v224
  show IntOp.cmpi .sgt ((res_main_v211 V : IVec S4096 32) i) (BitVec.ofNat 32 1) = 1#1
  rw [count H]
  rfl

end Cert.RefOrder

end
-- ==== Proof.RefScan.lean ====
/-
  The reference's scan, level by level: on the reversed scores, seven levels of pairing on the way down and seven of
  merging on the way up, each an instance of the two lemmas of the scan.
-/
module

public import proofs.«01_k».proof.Proof.Scan
public import proofs.«01_k».proof.Proof.RefOrder

@[expose] public section

noncomputable section

namespace Cert.RefScan

open Cert.ReferenceIdeal Cert.ReferenceIdeal.Gen Cert.ReferenceIdeal.Value
open Idealize.ShloMosaic hiding ix1 ix2 ix3 eq_ix1 eq_ix2 eq_ix3
open Idealize.ShloMosaic.TcCoe Idealize.ShloMosaic.ValueIdx
open Cert.LogSum (Mat Holds pairs prefixes)

/-- The exponentials of the scores, last horse first. -/
def weights (s : ℕ → ℕ → ℝ) (r j : ℕ) : ℝ := Real.exp (s r (199 - j))

/-- The exponentials after `i` levels of pairing. -/
def level (s : ℕ → ℕ → ℝ) : ℕ → ℕ → ℕ → ℝ
  | 0 => weights s
  | i + 1 => pairs (level s i)

/-- The scan the reference adds up: the merge of the last level. -/
def scan (V : Valuation τ sig (Elt Ideal)) : Mat 4096 200 :=
  addf (pad S4096x200 ![0, 0] ![0, 1] ![0, 1] (concatenate S4096x100 1 [⟨S4096x1, (extractStridedSlice S4096x1 ![0, 0] (res_main_v7 V) slices_S4096x200_S4096x1_0_0)⟩, ⟨S4096x99, (select (cmpf .une (res_main_v195 V) (res_main_v195 V)) (addf (res_main_v192 V) (res_main_v193 V)) (addf (maximumf (res_main_v192 V) (res_main_v193 V)) (Host.log1p (Host.exp (Host.negf (Host.absf (res_main_v195 V)))))))⟩] concatenates_S4096x1_S4096x99_S4096x100_d1) (constant S_ .f32 0x00000000#32) pads_S4096x100_S4096x200_000_011 h_S_) (pad S4096x200 ![0, 1] ![0, 0] ![0, 1] (res_main_v191 V) (constant S_ .f32 0x00000000#32) pads_S4096x100_S4096x200_000_101 h_S_)

variable {V : Valuation τ sig (Elt Ideal)} {s : ℕ → ℕ → ℝ} (H : Cert.RefOrder.InOrder V s)
include H

/-- The reversed scores are the logarithms of their exponentials. -/
theorem down0 : Holds (R := 4096) (n := 200) (res_main_v7 V) (level s 0) := fun r j =>
  ⟨Real.exp_pos _, by
    show (res_main_v7 V : Mat 4096 200) (ix2 r j) = ((Real.log (Real.exp (s r (199 - j.val))) : ℝ) : EReal)
    rw [Real.log_exp]
    exact Cert.RefOrder.reversed H r j⟩

theorem down1 : Holds (R := 4096) (n := 100) (res_main_v19 V) (level s 1) :=
  (down0 H).down slicesBy_S4096x200_S4096x100_0s1_0s2 slicesBy_S4096x200_S4096x100_0s1_1s2

theorem down2 : Holds (R := 4096) (n := 50) (res_main_v31 V) (level s 2) :=
  (down1 H).down slicesBy_S4096x100_S4096x50_0s1_0s2 slicesBy_S4096x100_S4096x50_0s1_1s2

theorem down3 : Holds (R := 4096) (n := 25) (res_main_v43 V) (level s 3) :=
  (down2 H).down slicesBy_S4096x50_S4096x25_0s1_0s2 slicesBy_S4096x50_S4096x25_0s1_1s2

theorem down4 : Holds (R := 4096) (n := 12) (res_main_v55 V) (level s 4) :=
  (down3 H).down slicesBy_S4096x25_S4096x12_0s1_0s2 slicesBy_S4096x25_S4096x12_0s1_1s2

theorem down5 : Holds (R := 4096) (n := 6) (res_main_v67 V) (level s 5) :=
  (down4 H).down slicesBy_S4096x12_S4096x6_0s1_0s2 slicesBy_S4096x12_S4096x6_0s1_1s2

theorem down6 : Holds (R := 4096) (n := 3) (res_main_v79 V) (level s 6) :=
  (down5 H).down slicesBy_S4096x6_S4096x3_0s1_0s2 slicesBy_S4096x6_S4096x3_0s1_1s2

theorem down7 : Holds (R := 4096) (n := 1) (res_main_v91 V) (level s 7) :=
  (down6 H).down slicesBy_S4096x3_S4096x1_0s1_0s2 slicesBy_S4096x3_S4096x1_0s1_1s2

/-- One entry is its own prefix. -/
theorem up7 : Holds (R := 4096) (n := 1) (res_main_v91 V) (prefixes (level s 7)) := fun r j => by
  have e : prefixes (level s 7) r j = level s 7 r j := by
    have hj : j.val = 0 := by omega
    rw [hj]
    simp [prefixes]
  rw [e]
  exact down7 H r j

theorem up6 : Holds (R := 4096) (n := 3) (res_main_v107 V) (prefixes (level s 6)) :=
  (down6 H).up (up7 H) (up7 H) slicesBy_S4096x3_S4096x1_0s1_2s2 slices_S4096x3_S4096x1_0_0
    concatenates_S4096x1_S4096x1_S4096x2_d1 pads_S4096x2_S4096x3_000_001 pads_S4096x1_S4096x3_000_111 h_S_ rfl (by decide) (by decide)

theorem up5 : Holds (R := 4096) (n := 6) (res_main_v124 V) (prefixes (level s 5)) :=
  (down5 H).up (up6 H) ((up6 H).first slices_S4096x3_S4096x2_0_0) slicesBy_S4096x6_S4096x2_0s1_2s2 slices_S4096x6_S4096x1_0_0
    concatenates_S4096x1_S4096x2_S4096x3_d1 pads_S4096x3_S4096x6_000_011 pads_S4096x3_S4096x6_000_101 h_S_ rfl (by decide) (by decide)

theorem up4 : Holds (R := 4096) (n := 12) (res_main_v141 V) (prefixes (level s 4)) :=
  (down4 H).up (up5 H) ((up5 H).first slices_S4096x6_S4096x5_0_0) slicesBy_S4096x12_S4096x5_0s1_2s2 slices_S4096x12_S4096x1_0_0
    concatenates_S4096x1_S4096x5_S4096x6_d1 pads_S4096x6_S4096x12_000_011 pads_S4096x6_S4096x12_000_101 h_S_ rfl (by decide) (by decide)

theorem up3 : Holds (R := 4096) (n := 25) (res_main_v157 V) (prefixes (level s 3)) :=
  (down3 H).up (up4 H) (up4 H) slicesBy_S4096x25_S4096x12_0s1_2s2 slices_S4096x25_S4096x1_0_0
    concatenates_S4096x1_S4096x12_S4096x13_d1 pads_S4096x13_S4096x25_000_001 pads_S4096x12_S4096x25_000_111 h_S_ rfl (by decide) (by decide)

theorem up2 : Holds (R := 4096) (n := 50) (res_main_v174 V) (prefixes (level s 2)) :=
  (down2 H).up (up3 H) ((up3 H).first slices_S4096x25_S4096x24_0_0) slicesBy_S4096x50_S4096x24_0s1_2s2 slices_S4096x50_S4096x1_0_0
    concatenates_S4096x1_S4096x24_S4096x25_d1 pads_S4096x25_S4096x50_000_011 pads_S4096x25_S4096x50_000_101 h_S_ rfl (by decide) (by decide)

theorem up1 : Holds (R := 4096) (n := 100) (res_main_v191 V) (prefixes (level s 1)) :=
  (down1 H).up (up2 H) ((up2 H).first slices_S4096x50_S4096x49_0_0) slicesBy_S4096x100_S4096x49_0s1_2s2 slices_S4096x100_S4096x1_0_0
    concatenates_S4096x1_S4096x49_S4096x50_d1 pads_S4096x50_S4096x100_000_011 pads_S4096x50_S4096x100_000_101 h_S_ rfl (by decide) (by decide)

theorem up0 : Holds (R := 4096) (n := 200) (scan V) (prefixes (level s 0)) :=
  (down0 H).up (up1 H) ((up1 H).first slices_S4096x100_S4096x99_0_0) slicesBy_S4096x200_S4096x99_0s1_2s2 slices_S4096x200_S4096x1_0_0
    concatenates_S4096x1_S4096x99_S4096x100_d1 pads_S4096x100_S4096x200_000_011 pads_S4096x100_S4096x200_000_101 h_S_ rfl (by decide) (by decide)

end Cert.RefScan

end
-- ==== Proof.RefValue.lean ====
/-
  WHAT THE REFERENCE COMPUTES: on races in finishing order its result is the loss.
-/
module

public import proofs.«01_k».proof.Proof.Sums
public import proofs.«01_k».proof.Proof.RefScan

@[expose] public section

noncomputable section

namespace Cert.RefValue

open Cert.ReferenceIdeal Cert.ReferenceIdeal.Gen Cert.ReferenceIdeal.Value
open Idealize.ShloMosaic hiding ix0 ix1 ix2 ix3 eq_ix1 eq_ix2 eq_ix3
open Idealize.ShloMosaic.TcCoe Idealize.ShloMosaic.ValueIdx
open Cert.Loss (tail term loss)

/-- Each race's sum of the terms of its horses but the last. -/
def raceTerms (V : Valuation τ sig (Elt Ideal)) : FVec Ideal S4096x200 .f32 :=
  select (cmpi .slt (broadcastInDim S4096x200 ![0, 1] bcast_S1x200_S4096x200_0_1 (broadcastInDim S1x200 ![1] bcast_S200_S1x200_1 (iotaInDim S200 32 0))) (broadcastInDim S4096x200 ![0, 1] bcast_S4096x1_S4096x200_0_1 (subi (broadcastInDim S4096x1 ![0] bcast_S4096_S4096x1_0 (res_main_v211 V)) (broadcastInDim S4096x1 ![] bcast_S_S4096x1 (constantI S_ 32 1#32))))) (subf (Host.reverse [1] (Cert.RefScan.scan V)) (res_main_v6 V)) (broadcastInDim S4096x200 ![] bcast_S_S4096x200 (id (constant S_ .f32 0x00000000#32)))

/-- The reference's result, as a function of its arguments. -/
def result (V : Valuation τ sig (Elt Ideal)) : FVec Ideal S1 .f32 :=
  shapeCast S1 (Host.divf (Host.reduceAdd (select (res_main_v224 V) (Host.reduceAdd (raceTerms V) (constant S_ .f32 0x00000000#32) reducesTo_S4096x200_S4096_d1 h_S_) (broadcastInDim S4096 ![] bcast_S_S4096 (id (constant S_ .f32 0x00000000#32)))) (constant S_ .f32 0x00000000#32) reducesTo_S4096_S_d0 h_S_) (Host.reduceAdd (uitofp .f32 (res_main_v224 V)) (constant S_ .f32 0x00000000#32) reducesTo_S4096_S_d0 h_S_)) shapeCasts_S_S1

/-- The host's quotient of two reals. -/
theorem quotient (a b : FVec Ideal S_ .f32) {x y : ℝ} (ha : a ix0 = (x : EReal)) (hb : b ix0 = (y : EReal)) (hy : y ≠ 0) :
    Host.divf a b ix0 = ((x / y : ℝ) : EReal) := by
  refine (hostDivf_apply a b ix0).trans ?_
  rw [ha, hb, Ideal.div_coe hy, ← EReal.coe_mul, mul_one_div]

variable {V : Valuation τ sig (Elt Ideal)} {s : ℕ → ℕ → ℝ} (H : Cert.RefOrder.InOrder V s)
include H

/-- The scan read from the last place back is the logarithm of the tail. -/
theorem scan_apply (r : Fin 4096) (p : Fin 200) :
    Host.reverse [1] (Cert.RefScan.scan V) (ix2 r p) = ((Real.log (tail s r p) : ℝ) : EReal) := by
  have e : Host.reverse [1] (Cert.RefScan.scan V) (ix2 r p) = Cert.RefScan.scan V (ix2 r p.rev) := by
    unfold Host.reverse
    refine congrArg (Cert.RefScan.scan V) (funext fun a => ?_)
    match a with
    | ⟨0, _⟩ => rfl
    | ⟨1, _⟩ => rfl
  refine e.trans ((Cert.RefScan.up0 H r p.rev).2.trans ?_)
  have h : Cert.LogSum.prefixes (Cert.RefScan.level s 0) r (p.rev : Fin 200) = tail s r p := by
    rw [← Cert.Loss.tail_eq_prefix s r p.isLt, show (p.rev : Fin 200).val = 199 - p.val by rw [Fin.val_rev]; omega]
    rfl
  rw [h]

/-- Each entry is its horse's term. -/
theorem raceTerms_apply (r : Fin 4096) (p : Fin 200) : raceTerms V (ix2 r p) = ((term s r p : ℝ) : EReal) := by
  unfold raceTerms
  show Scalar.select (IntOp.cmpi .slt (BitVec.ofNat 32 p.val) (IntOp.subi ((res_main_v211 V : IVec S4096 32) _) (BitVec.ofNat 32 1)))
    (Host.reverse [1] (Cert.RefScan.scan V) (ix2 r p) - (res_main_v6 V : FVec Ideal S4096x200 .f32) (ix2 r p)) (Ideal.ofBits .f32 0x00000000#32) = _
  rw [Cert.RefOrder.count H, show IntOp.subi (BitVec.ofNat 32 200) (BitVec.ofNat 32 1) = BitVec.ofNat 32 199 from rfl]
  have hp := p.isLt
  by_cases h : p.val < 199
  · rw [(WordCmp.cmpi_slt_ofNat_eq_one_iff (w := 32) (by omega) (by decide)).2 h, select_one, scan_apply H, Cert.RefOrder.scores H, ← EReal.coe_sub]
    rfl
  · rw [(WordCmp.cmpi_slt_ofNat_eq_zero_iff (w := 32) (by omega) (by decide)).2 (by omega), select_zero, Ideal.ofBits_zero_f32,
      show p.val = 199 by omega, Cert.Loss.term_last]
    rfl

/-- The reference's result is the loss. -/
theorem result_apply (j : S1.Idx) : result V j = ((loss s : ℝ) : EReal) := by
  have hsum : ∀ r : Fin 4096, select (res_main_v224 V) (Host.reduceAdd (raceTerms V) (constant S_ .f32 0x00000000#32) reducesTo_S4096x200_S4096_d1 h_S_)
      (broadcastInDim S4096 ![] bcast_S_S4096 (id (constant (F := Ideal) S_ .f32 0x00000000#32))) (ix1 r)
        = ((∑ p ∈ Finset.range 200, term s r p : ℝ) : EReal) := fun r =>
    (Cert.Words.select_of_one _ _ _ (ix1 r) (Cert.RefOrder.valid H (ix1 r))).trans
      (Cert.Sums.row_sum (R := 4096) (n := 200) (raceTerms V) (term s) (raceTerms_apply H) reducesTo_S4096x200_S4096_d1 h_S_ r)
  have hone : ∀ r : Fin 4096, (uitofp .f32 (res_main_v224 V : IVec S4096 1) : FVec Ideal S4096 .f32) (ix1 r) = (((1 : ℝ) : ℝ) : EReal) := fun r => by
    show ((((res_main_v224 V : IVec S4096 1) (ix1 r)).toNat : ℝ) : EReal) = _
    rw [Cert.RefOrder.valid H]
    simp
  unfold result
  refine (shapeCast_apply _ shapeCasts_S_S1 j ix0 ?_).trans ?_
  · have h1 := (Shape.rowMajor (s := S_) ix0).isLt
    have h2 := (Shape.rowMajor (s := S1) j).isLt
    have e1 : S_.numel = 1 := by decide
    have e2 : S1.numel = 1 := by decide
    omega
  · refine (quotient _ _ (x := ∑ r ∈ Finset.range 4096, ∑ p ∈ Finset.range 200, term s r p)
      (y := ∑ _r ∈ Finset.range 4096, 1) ?_ ?_ ?_).trans ?_
    · exact Cert.Sums.total_sum (n := 4096) _ (fun r => ∑ p ∈ Finset.range 200, term s r p) hsum reducesTo_S4096_S_d0 h_S_ ix0
    · exact Cert.Sums.total_sum (n := 4096) _ (fun _ => 1) hone reducesTo_S4096_S_d0 h_S_ ix0
    · simp
    · unfold loss
      simp [div_eq_mul_inv]

end Cert.RefValue

end
-- ==== Proof.Precond.lean ====
/-
  WHAT THE PRECONDITION SAYS: its three arrays are all ones, so the scores are reals, every horse runs, and no later horse
  of a race has a smaller ranking than an earlier one.
-/
module

public import proofs.«01_k».proof.Pre_full_races_in_order
public import Idealize.ShloMosaic.PureOps.Ideal.Laws
public import Idealize.ShloMosaic.Lib.ValueIdx
public import Idealize.ShloMosaic.Lib.WordCmp
public import Idealize.ShloMosaic.Lib.Pipeline.Value

@[expose] public section

noncomputable section

namespace Cert.Precond

open Cert.Pre_full_races_in_order
open Idealize.ShloMosaic
open Idealize.ShloMosaic.ValueIdx

/-- The side conditions the precondition's program states. -/
theorem facts : Cert.Pre_full_races_in_order.Facts where
  bcast_S_S4096x200 := by decide
  natLt_1_32 := by decide
  slices_S4096x200_S4096x199_0_0 := by decide
  slices_S4096x200_S4096x199_0_1 := by decide

variable [Cert.Pre_full_races_in_order.Facts]

/-- A float strictly between the infinities is a real. -/
theorem real_of_between {x : EReal}
    (h : IntOp.andi (Ideal.cmp .ogt x (Ideal.ofBits .f32 0xFF800000#32)) (Ideal.cmp .olt x (Ideal.ofBits .f32 0x7F800000#32)) = 1#1) :
    ((x.toReal : ℝ) : EReal) = x := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h
  refine EReal.coe_toReal ?_ ?_
  · rintro rfl
    exact absurd h (by simp [Ideal.cmp, IntOp.andi])
  · rintro rfl
    exact absurd h (by simp [Ideal.cmp, IntOp.andi])

/-- A bit that widens to one is one. -/
theorem one_of_extended {b : BitVec 1} (h : IntOp.cmpi .eq (BitVec.setWidth 32 b) (BitVec.ofNat 32 1) = 1#1) : b = 1#1 := by
  revert b
  decide

/-- A row whose neighbours are in order is in order. -/
theorem ordered_of_neighbours {n : ℕ} (f : ℕ → ℤ) (h : ∀ k, k + 1 < n → f k ≤ f (k + 1)) {k k' : ℕ} (hk : k ≤ k') (hn : k' < n) : f k ≤ f k' := by
  induction k', hk using Nat.le_induction with
  | base => exact le_rfl
  | succ j _ ih => exact (ih (by omega)).trans (h j hn)

/-- The scores, as reals. -/
def real (a0 : FVec Ideal S4096x200 .f32) (r k : ℕ) : ℝ := if h : r < 4096 ∧ k < 200 then EReal.toReal (a0 (ix2 ⟨r, h.1⟩ ⟨k, h.2⟩)) else 0

variable {a0 : FVec Ideal S4096x200 .f32} {a1 : IVec S4096x200 32} {a2 : IVec S4096x200 1}

theorem scores (h : (fn (F := Ideal) a0 a1 a2).1 = fun _ => 1#1) (r : Fin 4096) (k : Fin 200) : a0 (ix2 r k) = ((real a0 r k : ℝ) : EReal) := by
  unfold real
  rw [dif_pos ⟨r.isLt, k.isLt⟩]
  exact (real_of_between (congrFun h (ix2 r k))).symm

theorem runs (h : (fn (F := Ideal) a0 a1 a2).2.1 = fun _ => 1#1) (i : S4096x200.Idx) : a2 i = 1#1 := one_of_extended (congrFun h i)

theorem ordered (h : (fn (F := Ideal) a0 a1 a2).2.2 = fun _ => 1#1) (r : Fin 4096) (k k' : Fin 200) (hk : k < k') :
    IntOp.cmpi .slt (a1 (ix2 r k')) (a1 (ix2 r k)) ≠ 1#1 := by
  have hstep : ∀ j : Fin 199, (a1 (ix2 r ⟨j.val, by omega⟩)).toInt ≤ (a1 (ix2 r ⟨j.val + 1, by omega⟩)).toInt := fun j => by
    have e : IntOp.cmpi .sle (extractStridedSlice S4096x199 ![0, 0] a1 Facts.slices_S4096x200_S4096x199_0_0 (ix2 r j))
        (extractStridedSlice S4096x199 ![0, 1] a1 Facts.slices_S4096x200_S4096x199_0_1 (ix2 r j)) = 1#1 := congrFun h (ix2 r j)
    rw [extractStridedSlice_apply _ a1 _ (ix2 r j) (ix2 r ⟨j.val, by omega⟩) (fun a => by
        match a with
        | ⟨0, _⟩ => show r.val = 0 + r.val; omega
        | ⟨1, _⟩ => show j.val = 0 + j.val; omega),
      extractStridedSlice_apply _ a1 _ (ix2 r j) (ix2 r ⟨j.val + 1, by omega⟩) (fun a => by
        match a with
        | ⟨0, _⟩ => show r.val = 0 + r.val; omega
        | ⟨1, _⟩ => show j.val + 1 = 1 + j.val; omega),
      WordCmp.cmpi_sle_eq, WordCmp.ofBool_decide_eq_one_iff] at e
    exact e
  have hle := ordered_of_neighbours (n := 200) (fun j => if hj : j < 200 then (a1 (ix2 r ⟨j, hj⟩)).toInt else 0)
    (fun j hj => by
      rw [dif_pos (by omega), dif_pos hj]
      exact hstep ⟨j, by omega⟩) (Nat.le_of_lt hk) k'.isLt
  rw [dif_pos k.isLt, dif_pos k'.isLt] at hle
  rw [WordCmp.cmpi_slt_eq, ne_eq, WordCmp.ofBool_decide_eq_one_iff]
  exact not_lt.2 hle

end Cert.Precond

end
-- ==== Proof.Equation.lean ====
/-
  THE EQUATION: where the precondition holds, the number the kernel leaves is the reference's.
-/
module

public import proofs.«01_k».proof.Proof.Block
public import proofs.«01_k».proof.Proof.KernelValue
public import proofs.«01_k».proof.Proof.RefValue
public import proofs.«01_k».proof.Proof.Precond

@[expose] public section

noncomputable section

namespace Cert.Equation

open Idealize.ShloMosaic hiding ix0 ix1 ix2 ix3 eq_ix1 eq_ix2 eq_ix3
open Idealize.ShloMosaic.TcCoe Idealize.ShloMosaic.ValueIdx
open Cert.Loss (term loss)
open scoped BigOperators

section Kernel

open Cert.KernelIdeal Cert.KernelIdeal.Gen

variable (m : (ℓ : Loc nD τ sig) → Buf (Elt Ideal) ℓ) (c : Dev nD) {s : ℕ → ℕ → ℝ}
  (hs : ∀ (r : Fin 4096) (k : Fin 200), (m ((c.tc : Thread nD τ).loc main_arg0) : FVec Ideal S4096x200 .f32) (ix2 r k) = ((s r k : ℝ) : EReal))
include hs

/-- The scores of block `t`. -/
theorem block_real (t : Fin cfg0.N) (r : Fin 2048) (k : Fin 200) :
    (iblk m c 0 t : Vec Ideal S2048x200 .f32) (ix2 r k) = ((s (2048 * t.val + r.val) k : ℝ) : EReal) := by
  have ht : t.val < 2 := t.isLt
  have hr := r.isLt
  exact (Cert.KernelValue.block_apply m c t r k ⟨2048 * t.val + r.val, by omega⟩ rfl).trans (hs _ k)

/-- A block's share of the loss. -/
def share (s : ℕ → ℕ → ℝ) (t : ℕ) : ℝ := (∑ r ∈ Finset.range 2048, ∑ p ∈ Finset.range 200, term s (2048 * t + r) p) / 4096

omit hs in
/-- The two shares are the loss. -/
theorem shares (s : ℕ → ℕ → ℝ) : share s 0 + share s 1 = loss s := by
  unfold share loss
  rw [show 4096 = 2048 + 2048 from rfl, Finset.sum_range_add, add_div]
  simp

/-- The kernel's result is the loss. -/
theorem kernel : Cert.KernelValue.result m c = fun _ => ((loss s : ℝ) : EReal) := by
  have h0 : Cert.KernelValue.first m c = ((share s 0 : ℝ) : EReal) := by
    unfold Cert.KernelValue.first
    show k0_pay1 (iblk m c 0 t0_0) (Ideal.ofBits .f32 0x00000000#32) = _
    rw [Ideal.ofBits_zero_f32, ← EReal.coe_zero]
    refine (Cert.Block.payload (b := fun r k => s (2048 * 0 + r) k) (block_real m c hs t0_0) 0).trans ?_
    rw [zero_add]
    rfl
  unfold Cert.KernelValue.result
  rw [h0, ← shares]
  exact funext fun _ => Cert.Block.payload (b := fun r k => s (2048 * 1 + r) k) (block_real m c hs t0_1) (share s 0)

end Kernel

/-- Where the kernel's arguments satisfy the precondition and the reference's agree with them, the two results are the same. -/
theorem agree [Cert.Pre_full_races_in_order.Facts]
    (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    {a0 : FVec Ideal Cert.Pre_full_races_in_order.S4096x200 .f32} {a1 : IVec Cert.Pre_full_races_in_order.S4096x200 32}
    {a2 : IVec Cert.Pre_full_races_in_order.S4096x200 1}
    (h0 : (Cert.Pre_full_races_in_order.fn (F := Ideal) a0 a1 a2).1 = fun _ => 1#1)
    (h2 : (Cert.Pre_full_races_in_order.fn (F := Ideal) a0 a1 a2).2.1 = fun _ => 1#1)
    (h1 : (Cert.Pre_full_races_in_order.fn (F := Ideal) a0 a1 a2).2.2 = fun _ => 1#1)
    (e0 : m ((c.tc : Thread Cert.KernelIdeal.nD Cert.KernelIdeal.τ).loc Cert.KernelIdeal.main_arg0) = a0)
    (v0 : V (Proc.devRef .tc Cert.ReferenceIdeal.main_arg0) = a0)
    (v1 : V (Proc.devRef .tc Cert.ReferenceIdeal.main_arg1) = a1)
    (v2 : V (Proc.devRef .tc Cert.ReferenceIdeal.main_arg2) = a2) :
    Cert.RefValue.result V = Cert.KernelValue.result m c := by
  have H : Cert.RefOrder.InOrder V (Cert.Precond.real a0) :=
    ⟨fun r k => (congrFun v0 (ix2 r k)).trans (Cert.Precond.scores h0 r k), fun i => (congrFun v2 i).trans (Cert.Precond.runs h2 i),
      fun r k k' hk => by
        rw [v1]
        exact Cert.Precond.ordered h1 r k k' hk⟩
  rw [kernel m c (s := Cert.Precond.real a0) fun r k => (congrFun e0 (ix2 r k)).trans (Cert.Precond.scores h0 r k)]
  exact funext fun j => Cert.RefValue.result_apply H j

end Cert.Equation

end
-- ==== Proof.lean ====
/-
  THE CLAIM: the kernel and the reference run without fault, keep their arguments and end with every semaphore at zero;
  the kernel's idealization keeps its operations; and where the precondition holds the two results are equal extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.ShloMosaic.StableHlo Idealize.SL.Sem

/-- The reference runs, keeps its arguments and leaves every semaphore at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same where the precondition holds. -/
theorem frame_reference_pre : Cert.quiescent_ReferenceIdeal_pre_full_races_in_order (hReferenceIdeal := Cert.ReferenceIdeal.Gen.facts)
    (hPre_full_races_in_order := Cert.Precond.facts) := fun m ρ _ => frame_reference m ρ trivial

/-- Where the precondition holds, the kernel and the reference leave equal results. -/
theorem algebraic : Cert.algebraic_KernelIdeal_ReferenceIdeal_pre_full_races_in_order (hKernelIdeal := Cert.KernelIdeal.Gen.facts)
    (hReferenceIdeal := Cert.ReferenceIdeal.Gen.facts) (hPre_full_races_in_order := Cert.Precond.facts) := by
  intro m g m' g' hpre hagree
  refine ⟨fun c => Cert.KernelValue.result m c,
    (θ_run Cert.KernelIdeal.defs _ _).mono (fun _ h c => ⟨(h c).1.trans (Cert.KernelValue.final m c), (h c).2⟩)
      (Cert.KernelIdeal.Value.run_blocks (F := Ideal) m g),
    (θ_run Cert.ReferenceIdeal.defs _ _).mono (fun _ h c => ⟨(h c).1.trans ?_, (h c).2⟩)
      (Cert.ReferenceIdeal.Value.run (F := Ideal) m' g')⟩
  have hp := hpre c
  exact @Cert.Equation.agree Cert.Precond.facts m c (launchContents m' c) _ _ _ hp.1 hp.2.1 hp.2.2 rfl
    (hagree c).1 (hagree c).2.1 (hagree c).2.2

theorem claim : Cert.Claim :=
  ⟨Cert.Kernel.Gen.facts, Cert.KernelIdeal.Gen.facts, Cert.ReferenceIdeal.Gen.facts, Cert.Precond.facts,
    fun m ρ _ => Cert.Kernel.Gen.frame m ρ, fun m ρ _ => Cert.KernelIdeal.Gen.frame m ρ, fun m ρ _ => Cert.KernelIdeal.Gen.frame m ρ,
    frame_reference, frame_reference_pre, trivial, algebraic⟩

end Cert.Proof

end
